-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16384x512 : Shape := ⟨2, ![16384, 512]⟩
abbrev S16384x256 : Shape := ⟨2, ![16384, 256]⟩
abbrev S2x512x512 : Shape := ⟨3, ![2, 512, 512]⟩
abbrev S2 : Shape := ⟨1, ![2]⟩
abbrev S16 : Shape := ⟨1, ![16]⟩
abbrev S15 : Shape := ⟨1, ![15]⟩
abbrev S_ : Shape := ⟨0, ![]⟩
abbrev S1 : Shape := ⟨1, ![1]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S16384x512, .f32⟩
  | .local _ .vmem, ⟨0, _⟩ => ⟨S512x256, .f32⟩
  | .local _ .vmem, ⟨1, _⟩ => ⟨S256x512, .f32⟩
  | .local _ .vmem, ⟨2, _⟩ => ⟨S16384x256, .bf16⟩
  | .local _ .vmem, ⟨3, _⟩ => ⟨S256x512, .bf16⟩
  | .local _ .vmem, ⟨4, _⟩ => ⟨S2x512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v22 : BitVec 32 := Scalar.muli v2 c512_i32
  let v23 : Index := Scalar.indexCast v22
  let c0_15 : Index := 0#32
  ![v23.toNat, 0]
def k0_off2 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v27 : BitVec 32 := Scalar.subi v2 c0_i32_16
  let c32_i32_17 : BitVec 32 := 32#32
  let v28 : BitVec 32 := Scalar.addi v27 c32_i32_17
  let c32_i32_18 : BitVec 32 := 32#32
  let v29 : BitVec 32 := Scalar.remsi v28 c32_i32_18
  let c512_i32_20 : BitVec 32 := 512#32
  let v31 : BitVec 32 := Scalar.muli v29 c512_i32_20
  let c0_i32_25 : BitVec 32 := 0#32
  ![v31.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_23 : BitVec 32 := 1#32
  let v32 : BitVec 32 := Scalar.muli v7 c1_i32_23
  let v33 : BitVec 32 := Scalar.addi c0_i32_24 v32
  v33.toNat
def k0_off3 (d0 : Dev nD) (c0_i32_27 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v40 : BitVec 32 := Scalar.addi v2 c0_i32_27
  let c32_i32_28 : BitVec 32 := 32#32
  let v41 : BitVec 32 := Scalar.remsi v40 c32_i32_28
  let c512_i32_30 : BitVec 32 := 512#32
  let v43 : BitVec 32 := Scalar.muli v41 c512_i32_30
  let c0_i32_35 : BitVec 32 := 0#32
  ![v43.toNat, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_33 : BitVec 32 := 1#32
  let v44 : BitVec 32 := Scalar.muli v5 c1_i32_33
  let v45 : BitVec 32 := Scalar.addi c0_i32_34 v44
  v45.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_37 : BitVec 32 := 512#32
  let v52 : BitVec 32 := Scalar.muli v2 c512_i32_37
  let c0_i32_38 : BitVec 32 := 0#32
  ![v52.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_46 : BitVec 32 := 512#32
  let v60 : BitVec 32 := Scalar.muli v2 c512_i32_46
  let c0_i32_49 : BitVec 32 := 0#32
  ![v60.toNat, 0]
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_65 : BitVec 32 := 1#32
  let v77 : BitVec 32 := Scalar.muli v7 c1_i32_65
  let v78 : BitVec 32 := Scalar.addi c0_i32_66 v77
  v78.toNat
def k0_off6 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v85 : BitVec 32 := Scalar.subi v2 c0_i32_69
  let c1_i32_70 : BitVec 32 := 1#32
  let v86 : BitVec 32 := Scalar.subi v85 c1_i32_70
  let c32_i32_71 : BitVec 32 := 32#32
  let v87 : BitVec 32 := Scalar.addi v86 c32_i32_71
  let c32_i32_72 : BitVec 32 := 32#32
  let v88 : BitVec 32 := Scalar.remsi v87 c32_i32_72
  let c512_i32_73 : BitVec 32 := 512#32
  let v89 : BitVec 32 := Scalar.muli v88 c512_i32_73
  let c0_i32_74 : BitVec 32 := 0#32
  ![v89.toNat, 0]
def k0_off7 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v85 : BitVec 32 := Scalar.subi v2 c0_i32_69
  let c1_i32_70 : BitVec 32 := 1#32
  let v86 : BitVec 32 := Scalar.subi v85 c1_i32_70
  let c32_i32_71 : BitVec 32 := 32#32
  let v87 : BitVec 32 := Scalar.addi v86 c32_i32_71
  let c32_i32_72 : BitVec 32 := 32#32
  let v88 : BitVec 32 := Scalar.remsi v87 c32_i32_72
  let c512_i32_82 : BitVec 32 := 512#32
  let v97 : BitVec 32 := Scalar.muli v88 c512_i32_82
  let c0_i32_85 : BitVec 32 := 0#32
  ![v97.toNat, 0]
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_100 : BitVec 32 := 1#32
  let v113 : BitVec 32 := Scalar.muli v5 c1_i32_100
  let v114 : BitVec 32 := Scalar.addi c0_i32_101 v113
  v114.toNat
def k0_off8 (d0 : Dev nD) (c0_i32_104 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v121 : BitVec 32 := Scalar.addi v2 c0_i32_104
  let c1_i32_105 : BitVec 32 := 1#32
  let v122 : BitVec 32 := Scalar.addi v121 c1_i32_105
  let c32_i32_106 : BitVec 32 := 32#32
  let v123 : BitVec 32 := Scalar.remsi v122 c32_i32_106
  let c512_i32_112 : BitVec 32 := 512#32
  let v129 : BitVec 32 := Scalar.muli v123 c512_i32_112
  let c0_i32_113 : BitVec 32 := 0#32
  ![v129.toNat, 0]
def k0_off9 (d0 : Dev nD) (c0_i32_104 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v121 : BitVec 32 := Scalar.addi v2 c0_i32_104
  let c1_i32_105 : BitVec 32 := 1#32
  let v122 : BitVec 32 := Scalar.addi v121 c1_i32_105
  let c32_i32_106 : BitVec 32 := 32#32
  let v123 : BitVec 32 := Scalar.remsi v122 c32_i32_106
  let c512_i32_122 : BitVec 32 := 512#32
  let v137 : BitVec 32 := Scalar.muli v123 c512_i32_122
  let c0_i32_125 : BitVec 32 := 0#32
  ![v137.toNat, 0]
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_141 : BitVec 32 := 1#32
  let v154 : BitVec 32 := Scalar.muli v7 c1_i32_141
  let v155 : BitVec 32 := Scalar.addi c0_i32_142 v154
  v155.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_182 : BitVec 32 := 1#32
  let v195 : BitVec 32 := Scalar.muli v5 c1_i32_182
  let v196 : BitVec 32 := Scalar.addi c0_i32_183 v195
  v196.toNat
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_222 : BitVec 32 := 1#32
  let v236 : BitVec 32 := Scalar.muli v7 c1_i32_222
  let v237 : BitVec 32 := Scalar.addi c0_i32_223 v236
  v237.toNat
def k0_dev10 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_263 : BitVec 32 := 1#32
  let v277 : BitVec 32 := Scalar.muli v5 c1_i32_263
  let v278 : BitVec 32 := Scalar.addi c0_i32_264 v277
  v278.toNat
def k0_dev11 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_303 : BitVec 32 := 1#32
  let v318 : BitVec 32 := Scalar.muli v7 c1_i32_303
  let v319 : BitVec 32 := Scalar.addi c0_i32_304 v318
  v319.toNat
def k0_dev12 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_344 : BitVec 32 := 1#32
  let v359 : BitVec 32 := Scalar.muli v5 c1_i32_344
  let v360 : BitVec 32 := Scalar.addi c0_i32_345 v359
  v360.toNat
def k0_dev13 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_384 : BitVec 32 := 1#32
  let v400 : BitVec 32 := Scalar.muli v7 c1_i32_384
  let v401 : BitVec 32 := Scalar.addi c0_i32_385 v400
  v401.toNat
def k0_dev14 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_425 : BitVec 32 := 1#32
  let v441 : BitVec 32 := Scalar.muli v5 c1_i32_425
  let v442 : BitVec 32 := Scalar.addi c0_i32_426 v441
  v442.toNat
def k0_dev15 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_465 : BitVec 32 := 1#32
  let v482 : BitVec 32 := Scalar.muli v7 c1_i32_465
  let v483 : BitVec 32 := Scalar.addi c0_i32_466 v482
  v483.toNat
def k0_dev16 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_506 : BitVec 32 := 1#32
  let v523 : BitVec 32 := Scalar.muli v5 c1_i32_506
  let v524 : BitVec 32 := Scalar.addi c0_i32_507 v523
  v524.toNat
def k0_dev17 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_546 : BitVec 32 := 1#32
  let v564 : BitVec 32 := Scalar.muli v7 c1_i32_546
  let v565 : BitVec 32 := Scalar.addi c0_i32_547 v564
  v565.toNat
def k0_dev18 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_587 : BitVec 32 := 1#32
  let v605 : BitVec 32 := Scalar.muli v5 c1_i32_587
  let v606 : BitVec 32 := Scalar.addi c0_i32_588 v605
  v606.toNat
def k0_dev19 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_627 : BitVec 32 := 1#32
  let v646 : BitVec 32 := Scalar.muli v7 c1_i32_627
  let v647 : BitVec 32 := Scalar.addi c0_i32_628 v646
  v647.toNat
def k0_dev20 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_668 : BitVec 32 := 1#32
  let v687 : BitVec 32 := Scalar.muli v5 c1_i32_668
  let v688 : BitVec 32 := Scalar.addi c0_i32_669 v687
  v688.toNat
def k0_dev21 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_708 : BitVec 32 := 1#32
  let v728 : BitVec 32 := Scalar.muli v7 c1_i32_708
  let v729 : BitVec 32 := Scalar.addi c0_i32_709 v728
  v729.toNat
def k0_dev22 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_749 : BitVec 32 := 1#32
  let v769 : BitVec 32 := Scalar.muli v5 c1_i32_749
  let v770 : BitVec 32 := Scalar.addi c0_i32_750 v769
  v770.toNat
def k0_dev23 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_789 : BitVec 32 := 1#32
  let v810 : BitVec 32 := Scalar.muli v7 c1_i32_789
  let v811 : BitVec 32 := Scalar.addi c0_i32_790 v810
  v811.toNat
def k0_dev24 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_830 : BitVec 32 := 1#32
  let v851 : BitVec 32 := Scalar.muli v5 c1_i32_830
  let v852 : BitVec 32 := Scalar.addi c0_i32_831 v851
  v852.toNat
def k0_dev25 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_870 : BitVec 32 := 1#32
  let v892 : BitVec 32 := Scalar.muli v7 c1_i32_870
  let v893 : BitVec 32 := Scalar.addi c0_i32_871 v892
  v893.toNat
def k0_dev26 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_911 : BitVec 32 := 1#32
  let v933 : BitVec 32 := Scalar.muli v5 c1_i32_911
  let v934 : BitVec 32 := Scalar.addi c0_i32_912 v933
  v934.toNat
def k0_dev27 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_951 : BitVec 32 := 1#32
  let v974 : BitVec 32 := Scalar.muli v7 c1_i32_951
  let v975 : BitVec 32 := Scalar.addi c0_i32_952 v974
  v975.toNat
def k0_dev28 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_992 : BitVec 32 := 1#32
  let v1015 : BitVec 32 := Scalar.muli v5 c1_i32_992
  let v1016 : BitVec 32 := Scalar.addi c0_i32_993 v1015
  v1016.toNat
def k0_dev29 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1032 : BitVec 32 := 1#32
  let v1056 : BitVec 32 := Scalar.muli v7 c1_i32_1032
  let v1057 : BitVec 32 := Scalar.addi c0_i32_1033 v1056
  v1057.toNat
def k0_dev30 (d0 : Dev nD) : Nat :=
  let c0_i32_1074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1073 : BitVec 32 := 1#32
  let v1097 : BitVec 32 := Scalar.muli v5 c1_i32_1073
  let v1098 : BitVec 32 := Scalar.addi c0_i32_1074 v1097
  v1098.toNat
def k0_dev31 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1113 : BitVec 32 := 1#32
  let v1138 : BitVec 32 := Scalar.muli v7 c1_i32_1113
  let v1139 : BitVec 32 := Scalar.addi c0_i32_1114 v1138
  v1139.toNat
def k0_dev32 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1154 : BitVec 32 := 1#32
  let v1179 : BitVec 32 := Scalar.muli v5 c1_i32_1154
  let v1180 : BitVec 32 := Scalar.addi c0_i32_1155 v1179
  v1180.toNat
def k0_dev33 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1194 : BitVec 32 := 1#32
  let v1220 : BitVec 32 := Scalar.muli v7 c1_i32_1194
  let v1221 : BitVec 32 := Scalar.addi c0_i32_1195 v1220
  v1221.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩
abbrev S256x512 : Shape := ⟨2, ![256, 512]⟩
abbrev S16384x512 : Shape := ⟨2, ![16384, 512]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.IdealProg.lean ====
/-
The kernel's body as a program indexed by the hop.

The printed body is straight-line: an entry handshake, the casts of the two operands, the two first transfers, the
product of the device's own block, then sixteen hops to the right and fifteen to the left, and at last the waits for
everything still in flight. Here the same program is written with one definition per kind of step, each step taking its
offset and its semaphore as arguments, and `cc0_body_eq_prog` says that it is the printed body.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.KernelIdeal.Ring

open Cert.KernelIdeal Cert.KernelIdeal.Gen
open Idealize.ShloMosaic Idealize.SL.Sem

variable {F : FTy → Type} [FloatOps F]

/-! ## The buffers -/

/-- Staged operands: the device's rows of `A`, and `B`. -/
abbrev aM : Memref sig .tc .vmem S512x256 .f32 := Memref.whole cc0_stg0_0
abbrev bM : Memref sig .tc .vmem S256x512 .f32 := Memref.whole cc0_stg1_0
/-- The result array. -/
abbrev oM : Memref sig .tc .hbm S16384x512 .f32 := Memref.whole main_v1
/-- The gathered `A` in bf16, `B` in bf16, and the two result tiles on their way out. -/
abbrev gM : Memref sig .tc .vmem S16384x256 .bf16 := Memref.whole cc0_scratch0
abbrev wM : Memref sig .tc .vmem S256x512 .bf16 := Memref.whole cc0_scratch1
abbrev tM : Memref sig .tc .vmem S2x512x512 .f32 := Memref.whole cc0_scratch2

theorem gM_whole : gM.IsWhole := Memref.isWhole_whole _

/-! ## The semaphores -/

theorem inb2 (h : Fin 2) : ∀ a, (![h.val] : Fin 1 → ℕ) a + S1.size a ≤ S2.size a := by revert h; decide
theorem inb16 (h : Fin 16) : ∀ a, (![h.val] : Fin 1 → ℕ) a + S1.size a ≤ S16.size a := by revert h; decide
theorem inb15 (h : Fin 15) : ∀ a, (![h.val] : Fin 1 → ℕ) a + S1.size a ≤ S15.size a := by revert h; decide

/-- The semaphore of the copy-out of result tile `s`. -/
def copyS (s : Fin 2) : DmaSem sig :=
  ((cc0_scratch3.slice (Rect.unit (s := S2) ![s.val] S1.size (inb2 s)) : DmaSems sig S1).squeeze S_ squeezes_S1_S_).sem
/-- The send and the receive semaphore of hop `h` to the right. -/
def rSend (h : Fin 16) : DmaSem sig :=
  ((cc0_scratch4.slice (Rect.unit (s := S16) ![h.val] S1.size (inb16 h)) : DmaSems sig S1).squeeze S_ squeezes_S1_S_).sem
def rRecv (h : Fin 16) : DmaSem sig :=
  ((cc0_scratch5.slice (Rect.unit (s := S16) ![h.val] S1.size (inb16 h)) : DmaSems sig S1).squeeze S_ squeezes_S1_S_).sem
/-- The send and the receive semaphore of hop `h` to the left. -/
def lSend (h : Fin 15) : DmaSem sig :=
  ((cc0_scratch6.slice (Rect.unit (s := S15) ![h.val] S1.size (inb15 h)) : DmaSems sig S1).squeeze S_ squeezes_S1_S_).sem
def lRecv (h : Fin 15) : DmaSem sig :=
  ((cc0_scratch7.slice (Rect.unit (s := S15) ![h.val] S1.size (inb15 h)) : DmaSems sig S1).squeeze S_ squeezes_S1_S_).sem

/-- The runtime's barrier semaphore. -/
abbrev barS : Sem sig := (SemArray.scalar (sig.barrier 0 rfl) : Sems sig S_).sem

/-! ## The slots -/

abbrev Off := Fin 2 → ℕ
/-- The offset `o` leaves room for one device's rows of the gathered `A`, or of the result. -/
abbrev InA (o : Off) : Prop := ∀ a, o a + S512x256.size a ≤ S16384x256.size a
abbrev InO (o : Off) : Prop := ∀ a, o a + S512x512.size a ≤ S16384x512.size a

/-- The rows of the gathered `A` at offset `o`. -/
abbrev gAt (o : Off) (h : InA o) : Memref sig .tc .vmem S512x256 .bf16 :=
  gM.slice (Rect.unit (s := S16384x256) o S512x256.size h) (fun _ => rfl)
/-- The rows of the result at offset `o`. -/
abbrev oAt (o : Off) (h : InO o) : Memref sig .tc .hbm S512x512 .f32 :=
  oM.slice (Rect.unit (s := S16384x512) o S512x512.size h) (fun _ => rfl)

theorem inT (s : Fin 2) : ∀ a, (![s.val, 0, 0] : Fin 3 → ℕ) a + S1x512x512.size a ≤ S2x512x512.size a := by revert s; decide
/-- Result tile `s`'s rectangle in its buffer, and the tile as a matrix. -/
abbrev rectT (s : Fin 2) : Rect S2x512x512 := Rect.unit (s := S2x512x512) ![s.val, 0, 0] S1x512x512.size (inT s)
abbrev tAt (s : Fin 2) : Memref sig .tc .vmem S512x512 .f32 :=
  (tM.slice (rectT s) (fun _ => rfl) : Memref sig .tc .vmem S1x512x512 .f32).squeeze S512x512 squeezes_S1x512x512_S512x512

/-- The rows at `o` are whole words of the gathered `A`. -/
abbrev Words (o : Off) (h : InA o) : Prop := (Rect.unit (s := S16384x256) o S512x256.size h).WholeWords (EltTy.packing .bf16)

/-! ## The steps -/

abbrev PP (α : Type) := Prog (TpuEff nD τ sig (Elt F) Λ₀ .tc) α

/-- Start the transfer of the rows at `o` to the same rows of device `n`. -/
def fwd (o : Off) (h : InA o) (hw : Words o h) (n : Dev nD) (s r : DmaSem sig) : PP (F := F) PUnit :=
  Prog.lift (.enqueueDma (gAt o h) (.remote (Dev.tc n) (gAt o h) (.dma s)) (.dma r) (gM_whole.wordExact_slice rfl _ hw)
    (gM_whole.wordExact_slice rfl _ hw) ⟨⟨rfl, Or.inl rfl⟩, trivial⟩)

/-- Wait on `q` for one transfer of the rows at `o`. -/
def await (o : Off) (h : InA o) (hw : Words o h) (q : DmaSem sig) : PP (F := F) PUnit :=
  Prog.lift (.waitDma2 q (gAt o h) (gAt o h) (gM_whole.wordExact_slice rfl _ hw) (gM_whole.wordExact_slice rfl _ hw))

/-- Wait for the copy-out of result tile `s` to the rows at `o`. -/
def drain (s : Fin 2) (o : Off) (h : InO o) : PP (F := F) PUnit :=
  Prog.lift (.waitDma2 (copyS s) (tAt s) (oAt o h) ((View.wordExact_bits rfl).reshape _ _) (View.wordExact_bits rfl))

/-- A result tile from the bf16 operands: their product, as a one-matrix stack. -/
def tile (a : Vec F S512x256 .bf16) (b : Vec F S256x512 .bf16) : FVec F S1x512x512 .f32 := k0_pay5 a b

/-- The product of the rows of the gathered `A` at `o` with `B`, put in result tile `s` and its copy-out to the result's
    rows at `o'` started. -/
def emit (s : Fin 2) (o : Off) (h : InA o) (o' : Off) (h' : InO o') : PP (F := F) PUnit := do
  let a : Vec F S512x256 .bf16 ← Prog.lift (.load (gAt o h) (Rect.unit (s := S512x256) ![0, 0] S512x256.size inb_S512x256_S512x256_0_0).toLoadRect (View.loadsAt_vmem h_S512x256))
  let b : Vec F S256x512 .bf16 ← Prog.lift (.load wM (Rect.unit (s := S256x512) ![0, 0] S256x512.size inb_S256x512_S256x512_0_0).toLoadRect (View.loadsAt_vmem h_S256x512))
  let _ : Vec F S1x512x512 .f32 ← Prog.lift (.load tM (rectT s).toLoadRect (View.loadsAt_vmem h_S1x512x512))
  Prog.lift (.store tM (rectT s) (tile a b) Finset.univ (View.stores_vmem_bits_univ h_S1x512x512 rfl) (.inl rfl))
  Prog.lift (.enqueueDma (tAt s) (.here (oAt o' h')) (.dma (copyS s)) ((View.wordExact_bits rfl).reshape _ _) (View.wordExact_bits rfl) ⟨Or.inl rfl, trivial⟩)

/-- The handshake with both neighbours. -/
def greet (c : Dev nD) : PP (F := F) PUnit := do
  semSignalWord (⟨k0_dev1 c, k0_dev1_lt c⟩ : Dev nD) barS 1#32
  semSignalWord (⟨k0_dev2 c, k0_dev2_lt c⟩ : Dev nD) barS 1#32
  semWaitWord barS 2#32

/-- The casts of `B` and of the device's own rows of `A`. -/
def casts (c : Dev nD) : PP (F := F) PUnit := do
  let b : Vec F S256x512 .f32 ← Prog.lift (.load bM (Rect.unit (s := S256x512) ![0, 0] S256x512.size inb_S256x512_S256x512_0_0).toLoadRect (View.loadsAt_vmem h_S256x512))
  let _ : Vec F S256x512 .bf16 ← Prog.lift (.load wM (Rect.unit (s := S256x512) ![0, 0] S256x512.size inb_S256x512_S256x512_0_0).toLoadRect (View.loadsAt_vmem h_S256x512))
  Prog.lift (.store wM (Rect.unit (s := S256x512) ![0, 0] S256x512.size inb_S256x512_S256x512_0_0) (k0_pay1 b) Finset.univ (View.stores_vmem h_S256x512 ((Memref.isWhole_whole _ : wM.IsWhole).storeExact_slice rfl _ packedbf16_S256x512_S256x512_0_0) (fun _ => rfl)) (.inl rfl))
  let a : Vec F S512x256 .f32 ← Prog.lift (.load aM (Rect.unit (s := S512x256) ![0, 0] S512x256.size inb_S512x256_S512x256_0_0).toLoadRect (View.loadsAt_vmem h_S512x256))
  let _ : Vec F S512x256 .bf16 ← Prog.lift (.load gM (Rect.unit (s := S16384x256) (k0_off1 c) S512x256.size (k0_off1_inb c)).toLoadRect (View.loadsAt_vmem h_S512x256))
  Prog.lift (.store gM (Rect.unit (s := S16384x256) (k0_off1 c) S512x256.size (k0_off1_inb c)) (k0_pay2 a) Finset.univ (View.stores_vmem h_S512x256 (gM_whole.storeExact_slice rfl _ (k0_off1_packedbf16 c)) (fun _ => rfl)) (.inl rfl))

/-- Hop `h`'s transfer to the right, to the left. -/
def fwdR (c : Dev nD) (h : Fin 16) : PP (F := F) PUnit :=
  fwd (k0_off2 c (BitVec.ofNat 32 h.val)) (k0_off2_inb c h) (k0_off2_wordsbf16 c h) ⟨k0_dev3 c, k0_dev3_lt c⟩ (rSend h) (rRecv h)
def fwdL (c : Dev nD) (h : Fin 15) : PP (F := F) PUnit :=
  fwd (k0_off3 c (BitVec.ofNat 32 h.val)) (k0_off3_inb c h) (k0_off3_wordsbf16 c h) ⟨k0_dev4 c, k0_dev4_lt c⟩ (lSend h) (lRecv h)

/-- The wait for what hop `h` brings from the left neighbour, from the right neighbour. -/
def awaitR (c : Dev nD) (h : Fin 16) : PP (F := F) PUnit :=
  await (k0_off2 c (BitVec.ofNat 32 h.val)) (k0_off2_inb c h) (k0_off2_wordsbf16 c h) (rRecv h)
def awaitL (c : Dev nD) (h : Fin 15) : PP (F := F) PUnit :=
  await (k0_off3 c (BitVec.ofNat 32 h.val)) (k0_off3_inb c h) (k0_off3_wordsbf16 c h) (lRecv h)

/-- The product of what hop `h` brought. -/
def emitR (c : Dev nD) (h : Fin 16) : PP (F := F) PUnit :=
  emit 1 (k0_off6 c (BitVec.ofNat 32 h.val)) (k0_off6_inb c h) (k0_off7 c (BitVec.ofNat 32 h.val)) (k0_off7_inb c h)
def emitL (c : Dev nD) (h : Fin 15) : PP (F := F) PUnit :=
  emit 0 (k0_off8 c (BitVec.ofNat 32 h.val)) (k0_off8_inb c h) (k0_off9 c (BitVec.ofNat 32 h.val)) (k0_off9_inb c h)
def emitOwn (c : Dev nD) : PP (F := F) PUnit := emit 0 (k0_off4 c) (k0_off4_inb c) (k0_off5 c) (k0_off5_inb c)

def drainR (c : Dev nD) (h : Fin 16) : PP (F := F) PUnit := drain 1 (k0_off7 c (BitVec.ofNat 32 h.val)) (k0_off7_inb c h)
def drainL (c : Dev nD) (h : Fin 15) : PP (F := F) PUnit := drain 0 (k0_off9 c (BitVec.ofNat 32 h.val)) (k0_off9_inb c h)
def drainOwn (c : Dev nD) : PP (F := F) PUnit := drain 0 (k0_off5 c) (k0_off5_inb c)

/-- The wait for hop `h`'s transfer to have left this device. -/
def sentR (c : Dev nD) (h : Fin 16) : PP (F := F) PUnit :=
  await (k0_off2 c (BitVec.ofNat 32 h.val)) (k0_off2_inb c h) (k0_off2_wordsbf16 c h) (rSend h)
def sentL (c : Dev nD) (h : Fin 15) : PP (F := F) PUnit :=
  await (k0_off3 c (BitVec.ofNat 32 h.val)) (k0_off3_inb c h) (k0_off3_wordsbf16 c h) (lSend h)

/-! ## The program -/

/-- The first hop: nothing is on its way out of result tile 1 yet, and tile 0 holds the device's own block. -/
def hopFirst (c : Dev nD) : PP (F := F) PUnit := do
  awaitR c 0; fwdR c 1; emitR c 0
  awaitL c 0; fwdL c 1; drainOwn c; emitL c 0

/-- Hop `i + 1`, for `i` below 13: both directions receive, pass on, and multiply. -/
def hopMid (c : Dev nD) (i : ℕ) (hi : i < 13) : PP (F := F) PUnit := do
  awaitR c ⟨i + 1, by omega⟩; fwdR c ⟨i + 2, by omega⟩; drainR c ⟨i, by omega⟩; emitR c ⟨i + 1, by omega⟩
  awaitL c ⟨i + 1, by omega⟩; fwdL c ⟨i + 2, by omega⟩; drainL c ⟨i, by omega⟩; emitL c ⟨i + 1, by omega⟩

/-- The hops 1 to `n`. -/
def hopsMid (c : Dev nD) : (n : ℕ) → n ≤ 13 → PP (F := F) PUnit
  | 0, _ => pure ⟨⟩
  | n + 1, h => do hopsMid c n (by omega); hopMid c n (by omega)

/-- Hop 14, which passes on to the right only, and hop 15, which is the right's alone. -/
def hopLast (c : Dev nD) : PP (F := F) PUnit := do
  awaitR c 14; fwdR c 15; drainR c 13; emitR c 14
  awaitL c 14; drainL c 13; emitL c 14
  awaitR c 15; drainR c 14; emitR c 15

/-- The waits for the first `n` transfers to the right, to the left, to have left. -/
def allSentR (c : Dev nD) : (n : ℕ) → n ≤ 16 → PP (F := F) PUnit
  | 0, _ => pure ⟨⟩
  | n + 1, h => do allSentR c n (by omega); sentR c ⟨n, by omega⟩
def allSentL (c : Dev nD) : (n : ℕ) → n ≤ 15 → PP (F := F) PUnit
  | 0, _ => pure ⟨⟩
  | n + 1, h => do allSentL c n (by omega); sentL c ⟨n, by omega⟩

/-- The body on device `c`. -/
def prog (c : Dev nD) : PP (F := F) PUnit := do
  greet c; casts c
  fwdR c 0; fwdL c 0; emitOwn c
  hopFirst c
  hopsMid c 13 (le_refl _)
  hopLast c
  allSentR c 16 (le_refl _); allSentL c 15 (le_refl _)
  drainL c 14; drainR c 15

/-- The printed body is that program, on the device it runs on. -/
theorem cc0_body_eq_prog :
    cc0_body (F := F) aM (Memref.isWhole_whole _) bM (Memref.isWhole_whole _) oM (Memref.isWhole_whole _) gM (Memref.isWhole_whole _)
      wM (Memref.isWhole_whole _) tM (Memref.isWhole_whole _) cc0_scratch3 cc0_scratch4 cc0_scratch5 cc0_scratch6 cc0_scratch7
      = (Prog.lift .deviceId >>= fun c : Dev nD => prog c) := by sl_kernel_rfl

end Cert.KernelIdeal.Ring

end
-- ==== Proof.IdealRing.lean ====
/-
The ring: the neighbours, the blocks the hops move, the slots of the buffers and what they hold.

A hop is one of the sixteen to the right or one of the fifteen to the left. On device `c`, hop `x` sends block `src x c` to
the neighbour `peer x c` and receives block `got x c`; what it receives is what the next hop of the same direction sends.
-/
module

public import proofs.«01_k».proof.Proof.IdealProg
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.ViewIndex

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours and hops -/

/-- The right neighbour and the left one. -/
def nxt (c : Dev nD) : Dev nD := ⟨(c.val + 1) % 32, Nat.mod_lt _ (by decide)⟩
def prv (c : Dev nD) : Dev nD := ⟨(c.val + 31) % 32, Nat.mod_lt _ (by decide)⟩

theorem lt32 (c : Dev nD) : c.val < 32 := c.isLt

theorem prv_nxt (c : Dev nD) : prv (nxt c) = c := by
  have := lt32 c; refine Fin.ext ?_; show ((c.val + 1) % 32 + 31) % 32 = c.val; omega
theorem nxt_prv (c : Dev nD) : nxt (prv c) = c := by
  have := lt32 c; refine Fin.ext ?_; show ((c.val + 31) % 32 + 1) % 32 = c.val; omega
theorem nxt_ne_prv (c : Dev nD) : nxt c ≠ prv c := fun h => by
  have := lt32 c; have h := congrArg Fin.val h; change (c.val + 1) % 32 = (c.val + 31) % 32 at h; omega

/-- Turning the ring by one. -/
def turn : Dev nD ≃ Dev nD := ⟨nxt, prv, prv_nxt, nxt_prv⟩

/-- A hop: to the right, or to the left. -/
abbrev Hop := Fin 16 ⊕ Fin 15

/-- The device hop `x` of device `c` sends to, and the one it receives from. -/
def peer : Hop → Dev nD → Dev nD
  | .inl _, c => nxt c
  | .inr _, c => prv c
def from_ : Hop → Dev nD → Dev nD
  | .inl _, c => prv c
  | .inr _, c => nxt c
theorem peer_from (x : Hop) (c : Dev nD) : peer x (from_ x c) = c := by
  rcases x with h | h
  · exact nxt_prv c
  · exact prv_nxt c
theorem from_peer (x : Hop) (c : Dev nD) : from_ x (peer x c) = c := by
  rcases x with h | h
  · exact prv_nxt c
  · exact nxt_prv c

/-- The ring turned in hop `x`'s direction. -/
def turnX (x : Hop) : Dev nD ≃ Dev nD := ⟨peer x, from_ x, from_peer x, peer_from x⟩

/-- The block hop `x` of device `c` sends, and the block it receives. -/
def src : Hop → Dev nD → Dev nD
  | .inl h, c => ⟨(c.val + 32 - h.val) % 32, Nat.mod_lt _ (by decide)⟩
  | .inr h, c => ⟨(c.val + h.val) % 32, Nat.mod_lt _ (by decide)⟩
def got : Hop → Dev nD → Dev nD
  | .inl h, c => ⟨(c.val + 31 - h.val) % 32, Nat.mod_lt _ (by decide)⟩
  | .inr h, c => ⟨(c.val + h.val + 1) % 32, Nat.mod_lt _ (by decide)⟩

/-- What a hop sends is what the neighbour receives. -/
theorem got_peer (x : Hop) (c : Dev nD) : got x (peer x c) = src x c := by
  have := lt32 c
  rcases x with h | h <;> have hh := h.isLt <;> refine Fin.ext ?_
  · show ((c.val + 1) % 32 + 31 - h.val) % 32 = (c.val + 32 - h.val) % 32; omega
  · show ((c.val + 31) % 32 + h.val + 1) % 32 = (c.val + h.val) % 32; omega

/-- The first hops send the device's own block. -/
theorem src_inl_zero (c : Dev nD) : src (.inl 0) c = c := by
  have := lt32 c; refine Fin.ext ?_; show (c.val + 32 - 0) % 32 = c.val; omega
theorem src_inr_zero (c : Dev nD) : src (.inr 0) c = c := by
  have := lt32 c; refine Fin.ext ?_; show (c.val + 0) % 32 = c.val; omega

/-- A later hop sends what the hop before it received. -/
theorem src_inl_succ (c : Dev nD) (h : ℕ) (h₁ : h + 1 < 16) : src (.inl ⟨h + 1, h₁⟩) c = got (.inl ⟨h, by omega⟩) c := by
  refine Fin.ext ?_; show (c.val + 32 - (h + 1)) % 32 = (c.val + 31 - h) % 32; congr 1; omega
theorem src_inr_succ (c : Dev nD) (h : ℕ) (h₁ : h + 1 < 15) : src (.inr ⟨h + 1, h₁⟩) c = got (.inr ⟨h, by omega⟩) c := by
  refine Fin.ext ?_; show (c.val + (h + 1)) % 32 = (c.val + h + 1) % 32; congr 1

/-- The blocks of device `c`: its own and the ones it receives. -/
def blkNo (c : Dev nD) : Unit ⊕ Hop → Dev nD
  | .inl _ => c
  | .inr x => got x c

theorem blkNo_injective (c : Dev nD) : Function.Injective (blkNo c) := by
  have hc := lt32 c
  rintro (_ | (a | a)) (_ | (b | b)) e
  · rfl
  all_goals first | (have ha := a.isLt) | skip
  all_goals first | (have hb := b.isLt) | skip
  all_goals (have e := congrArg Fin.val e; simp only [blkNo, got] at e)
  · omega
  · omega
  · omega
  · have : a = b := Fin.ext (by omega)
    rw [this]
  · omega
  · omega
  · omega
  · have : a = b := Fin.ext (by omega)
    rw [this]

/-- Every block is the device's own or one of those it receives. -/
def blkEquiv (c : Dev nD) : Unit ⊕ Hop ≃ Dev nD :=
  Equiv.ofBijective (blkNo c) ((Fintype.bijective_iff_injective_and_card _).mpr ⟨blkNo_injective c, by decide⟩)

/-- Every block's resource: the own one's and the received ones'. -/
theorem bigSep_blocks {M : Type} [URA M] (c : Dev nD) (Φ : Dev nD → sProp M) :
    bigSep Finset.univ Φ = iprop(Φ c ∗ bigSep Finset.univ fun x : Hop => Φ (got x c)) := by
  rw [bigSep_univ_equiv (blkEquiv c), bigSep_univ_sum, bigSep_univ_of_subsingleton ()]; rfl

/-- The place of a hop in the order in which the device receives: right and left in turn. -/
def lev : Hop → ℕ
  | .inl h => 2 * h.val
  | .inr h => 2 * h.val + 1

theorem lev_injective : Function.Injective lev := by
  rintro (a | a) (b | b) e <;> simp only [lev] at e
  · exact congrArg _ (Fin.ext (by omega))
  · omega
  · omega
  · exact congrArg _ (Fin.ext (by omega))

theorem lev_lt (x : Hop) : lev x < 31 := by
  rcases x with h | h <;> have := h.isLt <;> simp only [lev] <;> omega

/-! ## The printed device numbers -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)

/-! ## The rows of a block -/

/-- Block `d`'s first row. -/
def rowOff (d : Dev nD) : Off := ![512 * d.val, 0]

theorem inA (d : Dev nD) : InA (rowOff d) := by
  have := lt32 d
  intro a; fin_cases a
  · show 512 * d.val + 512 ≤ 16384; omega
  · show 0 + 256 ≤ 256; omega
theorem inO (d : Dev nD) : InO (rowOff d) := by
  have := lt32 d
  intro a; fin_cases a
  · show 512 * d.val + 512 ≤ 16384; omega
  · show 0 + 512 ≤ 512; omega

theorem off1_eq (c : Dev nD) : k0_off1 c = rowOff c := k0_off1_eq c
theorem off4_eq (c : Dev nD) : k0_off4 c = rowOff c := k0_off4_eq c
theorem off5_eq (c : Dev nD) : k0_off5 c = rowOff c := k0_off5_eq c
theorem off2_eq (c : Dev nD) (h : Fin 16) : k0_off2 c (BitVec.ofNat 32 h.val) = rowOff (src (.inl h) c) := k0_off2_eq c h
theorem off3_eq (c : Dev nD) (h : Fin 15) : k0_off3 c (BitVec.ofNat 32 h.val) = rowOff (src (.inr h) c) := k0_off3_eq c h
theorem off6_eq (c : Dev nD) (h : Fin 16) : k0_off6 c (BitVec.ofNat 32 h.val) = rowOff (got (.inl h) c) := k0_off6_eq c h
theorem off7_eq (c : Dev nD) (h : Fin 16) : k0_off7 c (BitVec.ofNat 32 h.val) = rowOff (got (.inl h) c) := k0_off7_eq c h
theorem off8_eq (c : Dev nD) (h : Fin 15) : k0_off8 c (BitVec.ofNat 32 h.val) = rowOff (got (.inr h) c) := k0_off8_eq c h
theorem off9_eq (c : Dev nD) (h : Fin 15) : k0_off9 c (BitVec.ofNat 32 h.val) = rowOff (got (.inr h) c) := k0_off9_eq c h

theorem words (d : Dev nD) : Words (rowOff d) (inA d) := by
  have h := k0_off1_packedbf16 d
  have e := off1_eq d
  revert h
  generalize k0_off1_inb d = q
  revert q
  rw [e]
  exact fun q h => .inl h

/-- Block `d` of the gathered `A` and of the result. -/
abbrev gS (d : Dev nD) : Memref sig .tc .vmem S512x256 .bf16 := gAt (rowOff d) (inA d)
abbrev oS (d : Dev nD) : Memref sig .tc .hbm S512x512 .f32 := oAt (rowOff d) (inO d)

/-! ## Arrays of row blocks -/

abbrev Mat (r n : ℕ) : Shape := ⟨2, ![r, n]⟩

/-- The block a row of a 16384-row array lies in, and its place there. -/
def blkOf {n : ℕ} (i : (Mat 16384 n).Idx) : Dev nD := ⟨(i 0).val / 512, by have : (i 0).val < 16384 := (i 0).isLt; show _ < 32; omega⟩
def rowIn {n : ℕ} (i : (Mat 16384 n).Idx) : (Mat 512 n).Idx := fun a => match a with
  | 0 => (⟨(i 0).val % 512, Nat.mod_lt _ (by decide)⟩ : Fin 512)
  | 1 => (⟨(i 1).val, (i 1).isLt⟩ : Fin n)

/-- The array whose block `d` is `X d`. -/
def stack {n : ℕ} {α : Type} (X : Dev nD → (Mat 512 n).Idx → α) : (Mat 16384 n).Idx → α := fun i => X (blkOf i) (rowIn i)

section Emb
variable {n : ℕ} (d : Dev nD) (inb : ∀ a, rowOff d a + (Mat 512 n).size a ≤ (Mat 16384 n).size a)

/-- Where block `d`'s rectangle puts an index. -/
theorem blkOf_emb (x : (Mat 512 n).Idx) : blkOf ((Rect.unit (s := Mat 16384 n) (rowOff d) (Mat 512 n).size inb).emb x) = d := by
  have h : (((Rect.unit (s := Mat 16384 n) (rowOff d) (Mat 512 n).size inb).emb x 0 : Fin _) : ℕ) = 512 * d.val + 1 * (x 0).val := Rect.emb_apply _ _ _
  have hx : (x 0).val < 512 := (x 0).isLt
  refine Fin.ext ?_
  show (((Rect.unit (s := Mat 16384 n) (rowOff d) (Mat 512 n).size inb).emb x 0 : Fin _) : ℕ) / 512 = d.val
  rw [h]; omega
theorem rowIn_emb (x : (Mat 512 n).Idx) : rowIn ((Rect.unit (s := Mat 16384 n) (rowOff d) (Mat 512 n).size inb).emb x) = x := by
  have h : (((Rect.unit (s := Mat 16384 n) (rowOff d) (Mat 512 n).size inb).emb x 0 : Fin _) : ℕ) = 512 * d.val + 1 * (x 0).val := Rect.emb_apply _ _ _
  have h' : (((Rect.unit (s := Mat 16384 n) (rowOff d) (Mat 512 n).size inb).emb x 1 : Fin _) : ℕ) = 0 + 1 * (x 1).val := Rect.emb_apply _ _ _
  have hx : (x 0).val < 512 := (x 0).isLt
  funext a
  fin_cases a
  · refine Fin.ext ?_
    show (((Rect.unit (s := Mat 16384 n) (rowOff d) (Mat 512 n).size inb).emb x 0 : Fin _) : ℕ) % 512 = (x 0).val
    rw [h]; omega
  · refine Fin.ext ?_
    show (((Rect.unit (s := Mat 16384 n) (rowOff d) (Mat 512 n).size inb).emb x 1 : Fin _) : ℕ) = (x 1).val
    rw [h']; omega
/-- A stack read through block `d`'s rectangle is its block `d`. -/
theorem stack_emb {α : Type} (X : Dev nD → (Mat 512 n).Idx → α) (x : (Mat 512 n).Idx) :
    stack X ((Rect.unit (s := Mat 16384 n) (rowOff d) (Mat 512 n).size inb).emb x) = X d x := by
  unfold stack; rw [blkOf_emb, rowIn_emb]
/-- Block `d`'s rectangle holds the indices whose row lies in block `d`. -/
theorem mem_rows (i : (Mat 16384 n).Idx) :
    i ∈ (Rect.unit (s := Mat 16384 n) (rowOff d) (Mat 512 n).size inb).set ↔ blkOf i = d := by
  rw [Rect.mem_set_unit]
  constructor
  · intro h
    have h0 : 512 * d.val ≤ (i 0).val ∧ (i 0).val < 512 * d.val + 512 := h 0
    refine Fin.ext ?_
    show (i 0).val / 512 = d.val
    omega
  · rintro rfl a
    fin_cases a
    · show 512 * ((i 0).val / 512) ≤ (i 0).val ∧ (i 0).val < 512 * ((i 0).val / 512) + 512
      omega
    · have : (i 1).val < n := (i 1).isLt
      show 0 ≤ (i 1).val ∧ (i 1).val < 0 + n
      omega
end Emb

/-- The blocks of the gathered `A` cover it and have nothing in common. -/
theorem gS_mem (d : Dev nD) (i : S16384x256.Idx) : i ∈ (gS d).view.set ↔ blkOf i = d := by
  rw [show (gS d).view.set = (Rect.unit (s := S16384x256) (rowOff d) S512x256.size (inA d)).set from View.set_slice_whole _ _]
  exact mem_rows d (inA d) i
theorem oS_mem (d : Dev nD) (i : S16384x512.Idx) : i ∈ (oS d).view.set ↔ blkOf i = d := by
  rw [show (oS d).view.set = (Rect.unit (s := S16384x512) (rowOff d) S512x512.size (inO d)).set from View.set_slice_whole _ _]
  exact mem_rows d (inO d) i

theorem gS_disjoint : ∀ d ∈ (Finset.univ : Finset (Dev nD)), ∀ d' ∈ (Finset.univ : Finset (Dev nD)), d ≠ d' → Disjoint (gS d).view.set (gS d').view.set :=
  fun d _ d' _ h => Finset.disjoint_left.mpr fun i hi hi' => h (((gS_mem d i).mp hi).symm.trans ((gS_mem d' i).mp hi'))
theorem gS_cover : Finset.biUnion (β := S16384x256.Idx) (Finset.univ : Finset (Dev nD)) (fun d => (gS d).view.set) = Finset.univ :=
  Finset.eq_univ_iff_forall.mpr fun i => Finset.mem_biUnion.mpr ⟨blkOf i, Finset.mem_univ _, (gS_mem _ i).mpr rfl⟩
theorem oS_disjoint : ∀ d ∈ (Finset.univ : Finset (Dev nD)), ∀ d' ∈ (Finset.univ : Finset (Dev nD)), d ≠ d' → Disjoint (oS d).view.set (oS d').view.set :=
  fun d _ d' _ h => Finset.disjoint_left.mpr fun i hi hi' => h (((oS_mem d i).mp hi).symm.trans ((oS_mem d' i).mp hi'))
theorem oS_cover : Finset.biUnion (β := S16384x512.Idx) (Finset.univ : Finset (Dev nD)) (fun d => (oS d).view.set) = Finset.univ :=
  Finset.eq_univ_iff_forall.mpr fun i => Finset.mem_biUnion.mpr ⟨blkOf i, Finset.mem_univ _, (oS_mem _ i).mpr rfl⟩

/-- The two result tiles' rectangles. -/
theorem tAt_mem (s : Fin 2) (i : S2x512x512.Idx) : i ∈ (tAt s).view.set ↔ i 0 = s := by
  rw [show (tAt s).view.set = (rectT s).set from (View.set_reshape _ _).trans (View.set_slice_whole _ _), Rect.mem_set_unit]
  constructor
  · intro h
    have h0 : s.val ≤ (i 0).val ∧ (i 0).val < s.val + 1 := h 0
    exact Fin.ext (by omega)
  · rintro rfl a
    have h1 : (i 1).val < 512 := (i 1).isLt
    have h2 : (i 2).val < 512 := (i 2).isLt
    fin_cases a
    · show (i 0).val ≤ (i 0).val ∧ (i 0).val < (i 0).val + 1; omega
    · show 0 ≤ (i 1).val ∧ (i 1).val < 0 + 512; omega
    · show 0 ≤ (i 2).val ∧ (i 2).val < 0 + 512; omega
theorem zero_ne_one_fin : ¬ (0 : Fin 2) = 1 := by decide
theorem tAt_disjoint : Disjoint (tAt 0).view.set (tAt 1).view.set :=
  Finset.disjoint_left.mpr fun i hi hi' => absurd (((tAt_mem 0 i).mp hi).symm.trans ((tAt_mem 1 i).mp hi')) zero_ne_one_fin
theorem tAt_cover : (tAt 0).view.set ∪ (tAt 1).view.set = Finset.univ :=
  Finset.eq_univ_iff_forall.mpr fun i => by
    rw [Finset.mem_union, tAt_mem, tAt_mem]
    have h : ∀ j : Fin 2, j = 0 ∨ j = 1 := by decide
    exact h (i 0)

end Cert.KernelIdeal.Ring

end
-- ==== Proof.IdealProtocol.lean ====
/-
The protocol between the devices: the cells, what each hands over and at which level it is waited on.

A device has one barrier cell, paid once by each neighbour, and a send and a receive cell for every hop, each paid once by
that hop's transfer. A neighbour's barrier signal hands over the slots of its gathered `A` that this device's transfers
write; a receive cell hands its owner the slot just written, holding that block of `A` in bf16; a send cell hands back the
share of the slot that the transfer read.
-/
module

public import proofs.«01_k».proof.Proof.IdealRing
public import Idealize.ShloMosaic.Lib.Transfers

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging's rounds, the ring's rounds, the copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds lie in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the local copies. -/
abbrev EC : UEmb Counters (MT nD τ sig Unit (Elt F) ℕ UU ℕ) := countersEmb (U := UU)

abbrev 𝒱₀ : Variants := Variants.none

variable (m : (ℓ : Loc nD τ sig) → Buf (Elt F) ℓ)

/-! ## Contents -/

/-- Device `c`'s rows of `A`, and its `B`. -/
def aIn (c : Dev nD) : Vec F S512x256 .f32 := iblk m c 0 t0_0
def bIn (c : Dev nD) : Vec F S256x512 .f32 := iblk m c 1 t0_0

/-- The gathered `A` in bf16, the same on every device; device `c`'s `B` in bf16; device `c`'s result. -/
def gath : Vec F S16384x256 .bf16 := stack fun d => k0_pay2 (aIn m d)
def wIn (c : Dev nD) : Vec F S256x512 .bf16 := k0_pay1 (bIn m c)
def prodOf (c : Dev nD) : Vec F S16384x512 .f32 := stack fun d => k0_pay3 (k0_pay2 (aIn m d)) (wIn m c)

/-- Block `d`'s slot of device `c`'s gathered `A`, its elements held at share `q`. -/
def slot (c d : Dev nD) (q : PosShare TreeShare) (f : Buf (Elt F) ((gS d).view.loc (c : Thread nD τ))) : sProp 𝕄 :=
  (gS d).view.loc (c : Thread nD τ) ↦[(gS d).view.set]{q} f

instance slot_storable (c d : Dev nD) (q) (f) : BI.Storable (upEmb : UEmb _ 𝕄) (slot (F := F) c d q f) := by
  unfold slot; infer_instance

/-- The slot that hop `x` writes on device `c`, at whatever it holds. -/
def land (c : Dev nD) (x : Hop) : sProp 𝕄 := iprop(∃ f, slot c (got x c) fullShare f)

instance land_storable (c : Dev nD) (x) : BI.Storable (upEmb : UEmb _ 𝕄) (land (F := F) c x) := by
  unfold land; infer_instance

/-- The share of the slot it reads that hop `x`'s transfer takes. -/
def qS (x : Hop) : PosShare TreeShare := if x = .inr 0 then fullShare.right.left else fullShare.left

/-! ## The cells -/

abbrev barCell (c : Dev nD) : GSem nD τ sig := ((c : Thread nD τ), .reg barS)

def sSem : Hop → DmaSem sig
  | .inl h => rSend h
  | .inr h => lSend h
def rSem : Hop → DmaSem sig
  | .inl h => rRecv h
  | .inr h => lRecv h

/-- Hop `x`'s semaphores: `false` its send's, `true` its receive's. -/
def ringSem : Hop × Bool → DmaSem sig
  | (x, false) => sSem x
  | (x, true) => rSem x

abbrev sendCell (c : Dev nD) (x : Hop) : GSem nD τ sig := ((c : Thread nD τ), .dma (sSem x))
abbrev recvCell (c : Dev nD) (x : Hop) : GSem nD τ sig := ((c : Thread nD τ), .dma (rSem x))

theorem copyS_val (s : Fin 2) : (copyS s).val = 2 + s.val := by revert s; decide
theorem rSend_val (h : Fin 16) : (rSend h).val = 4 + h.val := by revert h; decide
theorem rRecv_val (h : Fin 16) : (rRecv h).val = 20 + h.val := by revert h; decide
theorem lSend_val (h : Fin 15) : (lSend h).val = 36 + h.val := by revert h; decide
theorem lRecv_val (h : Fin 15) : (lRecv h).val = 51 + h.val := by revert h; decide

/-- The semaphores' numbers. -/
def ringNo : Hop × Bool → ℕ
  | (.inl h, false) => 4 + h.val
  | (.inl h, true) => 20 + h.val
  | (.inr h, false) => 36 + h.val
  | (.inr h, true) => 51 + h.val

theorem ringSem_val (k : Hop × Bool) : (ringSem k).val = ringNo k := by
  rcases k with ⟨h | h, _ | _⟩
  · exact rSend_val h
  · exact rRecv_val h
  · exact lSend_val h
  · exact lRecv_val h

theorem ringNo_injective : Function.Injective ringNo := by
  rintro ⟨a | a, _ | _⟩ ⟨b | b, _ | _⟩ e <;> have ha := a.isLt <;> have hb := b.isLt <;> simp only [ringNo] at e <;>
    first
      | omega
      | (have : a = b := Fin.ext (by omega)
         rw [this])

theorem ringSem_injective : Function.Injective ringSem := fun a b e =>
  ringNo_injective (by rw [← ringSem_val, ← ringSem_val, e])

theorem ringNo_ge (k : Hop × Bool) : 4 ≤ ringNo k := by
  rcases k with ⟨h | h, _ | _⟩ <;> simp only [ringNo] <;> omega

/-- One transfer's credit: that of one block. -/
abbrev N : ℕ := (gS (0 : Dev nD)).view.dmaCredit
theorem N_pos : 0 < N := View.dmaCredit_pos _ (by decide)

/-! ## The schedule -/

/-- What a neighbour's signal hands device `c`: the right one's (`true`) the slots that `c`'s hops to the right write, the
    left one's those that its hops to the left write. -/
def barPay (c : Dev nD) (d : Bool) : sProp 𝕄 :=
  if d then bigSep Finset.univ fun h : Fin 16 => land (nxt c) (.inl h)
  else bigSep Finset.univ fun h : Fin 15 => land (prv c) (.inr h)

/-- What a transfer's end hands device `c`: the slot hop `x` wrote, or the share of the slot it read. -/
def hopPay (c : Dev nD) : Hop × Bool → sProp 𝕄
  | (x, false) => slot c (src x c) (qS x) (gath m)
  | (x, true) => slot c (got x c) fullShare (gath m)

instance barPay_storable (c : Dev nD) (d) : BI.Storable (upEmb : UEmb _ 𝕄) (barPay (F := F) c d) := by
  unfold barPay; split <;> infer_instance
instance hopPay_storable (c : Dev nD) (k) : BI.Storable (upEmb : UEmb _ 𝕄) (hopPay m c k) := by
  rcases k with ⟨x, _ | _⟩ <;> (unfold hopPay; infer_instance)

abbrev IsHop (s : SemLoc sig) : Prop := ∃ k, SemLoc.dma (ringSem k) = s

open Classical in
/-- One round. A barrier cell has two duties of one unit, a hop's cell one of a block's credit. -/
def ringRd : Rounds.Schedule (GSem nD τ sig) Bool 𝕄 where
  duties g r := if r = 0 ∧ g.1.2 = .tc then (if g.2 = .reg barS then Finset.univ else if IsHop g.2 then {false} else ∅) else ∅
  unitless _ := False
  amount g _ _ := if g.2 = .reg barS then 1 else N
  payload g _ d :=
    if g.2 = .reg barS then barPay g.1.1 d
    else if h : IsHop g.2 then hopPay m g.1.1 h.choose else iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  dsimp only [ringRd]
  (repeat' split) <;> infer_instance

theorem dma_ne_bar (q : DmaSem sig) : (SemLoc.dma q : SemLoc sig) ≠ .reg barS := fun h => by cases h

section Sched
variable (c : Dev nD)

/-- Hop cell `k` of device `c`. -/
abbrev hopCell (k : Hop × Bool) : GSem nD τ sig := ((c : Thread nD τ), .dma (ringSem k))

theorem duties_bar : (ringRd (F := F) m).duties (barCell c) 0 = Finset.univ := by
  dsimp only [ringRd]; rw [if_pos ⟨rfl, rfl⟩, if_pos rfl]
theorem duties_hop (k : Hop × Bool) : (ringRd (F := F) m).duties (hopCell c k) 0 = {false} := by
  dsimp only [ringRd]; rw [if_pos ⟨rfl, rfl⟩, if_neg (dma_ne_bar _), if_pos ⟨k, rfl⟩]
theorem duties_later (g : GSem nD τ sig) : ∀ r, 1 ≤ r → (ringRd (F := F) m).duties g r = ∅ :=
  fun r hr => by dsimp only [ringRd]; rw [if_neg fun h => by omega]
theorem amount_bar (d : Bool) : (ringRd (F := F) m).amount (barCell c) 0 d = 1 := by dsimp only [ringRd]; exact if_pos rfl
theorem amount_hop (k : Hop × Bool) (d : Bool) : (ringRd (F := F) m).amount (hopCell c k) 0 d = N := by
  dsimp only [ringRd]; exact if_neg (dma_ne_bar _)
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_hop (k : Hop × Bool) : (ringRd (F := F) m).expect (hopCell c k) 0 = N := by
  unfold Schedule.expect Schedule.amountOf; rw [duties_hop, Finset.sum_singleton, amount_hop]
theorem payload_bar (d : Bool) : (ringRd (F := F) m).payload (barCell c) 0 d = barPay c d := by dsimp only [ringRd]; rw [if_pos rfl]
theorem payload_hop (k : Hop × Bool) (d : Bool) : (ringRd (F := F) m).payload (hopCell c k) 0 d = hopPay m c k := by
  dsimp only [ringRd]
  have h : IsHop (SemLoc.dma (ringSem k)) := ⟨k, rfl⟩
  rw [if_neg (dma_ne_bar _), dif_pos h]
  have e : h.choose = k := ringSem_injective (SemLoc.dma.inj h.choose_spec)
  rw [e]
/-- What a barrier cell's round hands over. -/
theorem rest_bar : bigSep ((ringRd (F := F) m).duties (barCell c) 0 \ ∅) (fun d => (ringRd (F := F) m).payload (barCell c) 0 d)
    = iprop((bigSep Finset.univ fun h : Fin 16 => land (nxt c) (.inl h)) ∗ bigSep Finset.univ fun h : Fin 15 => land (prv c) (.inr h)) := by
  rw [Finset.sdiff_empty, duties_bar, bigSep_univ_eq_bigSepL [true, false] (by decide) (by decide), bigSepL_cons_cons, bigSepL_singleton,
    payload_bar, payload_bar]
  rfl
/-- What a hop cell's round hands over. -/
theorem rest_hop (k : Hop × Bool) :
    bigSep ((ringRd (F := F) m).duties (hopCell c k) 0 \ ∅) (fun d => (ringRd (F := F) m).payload (hopCell c k) 0 d) = hopPay m c k := by
  rw [Finset.sdiff_empty, duties_hop, bigSep_singleton, payload_hop]
end Sched

/-! ## What each device owes -/

/-- The credits device `c` owes its neighbours' receive cells for the hops from place `n` on. -/
def owedFrom (c : Dev nD) (n : ℕ) : CellTallies nD τ sig Unit :=
  ∑ x ∈ Finset.univ.filter (fun x : Hop => n ≤ lev x), tallyAt (recvCell (peer x c) x) () N

/-- The hop at place `n` is the first of what is owed from `n` on. -/
theorem owedFrom_step (c : Dev nD) (x : Hop) (n : ℕ) (hx : lev x = n) :
    owedFrom c n = owedFrom c (n + 1) + tallyAt (recvCell (peer x c) x) () N := by
  unfold owedFrom
  have e : (Finset.univ.filter fun y : Hop => n ≤ lev y) = insert x (Finset.univ.filter fun y : Hop => n + 1 ≤ lev y) := by
    ext y
    rw [Finset.mem_insert, Finset.mem_filter, Finset.mem_filter]
    constructor
    · rintro ⟨-, h⟩
      by_cases hy : lev y = n
      · exact .inl (lev_injective (hy.trans hx.symm))
      · exact .inr ⟨Finset.mem_univ _, by omega⟩
    · rintro (rfl | ⟨-, h⟩)
      · exact ⟨Finset.mem_univ _, by omega⟩
      · exact ⟨Finset.mem_univ _, by omega⟩
  rw [e, Finset.sum_insert, add_comm]
  rw [Finset.mem_filter]
  rintro ⟨-, h⟩
  omega

theorem owedFrom_end (c : Dev nD) (n : ℕ) (hn : 31 ≤ n) : owedFrom c n = 0 := by
  unfold owedFrom
  rw [Finset.filter_eq_empty_iff.mpr, Finset.sum_empty]
  intro x _ h
  have := lev_lt x
  omega

theorem owedFrom_pos {c : Dev nD} {n : ℕ} {g : GSem nD τ sig} {u : Unit} (h : 0 < owedFrom c n g u) :
    ∃ x, n ≤ lev x ∧ g = recvCell (peer x c) x := by
  unfold owedFrom at h
  rw [Finset.sum_apply, Finsupp.finset_sum_apply] at h
  obtain ⟨x, hx, hne⟩ := Finset.exists_ne_zero_of_sum_ne_zero (Nat.pos_iff_ne_zero.mp h)
  refine ⟨x, (Finset.mem_filter.mp hx).2, ?_⟩
  by_contra hg
  exact hne (by rw [tallyAt_apply, if_neg fun h' => hg h'.1])

/-- At the launch a device owes besides one unit to each neighbour's barrier. -/
def O₁ (c : Dev nD) : CellTallies nD τ sig Unit := owedFrom c 0 + tallyAt (barCell (nxt c)) () 1
def O₀ (c : Dev nD) : CellTallies nD τ sig Unit := O₁ c + tallyAt (barCell (prv c)) () 1

/-! ## Levels -/

def L (g : GSem nD τ sig) : Finset Unit := if g.1.2 = .tc then {()} else ∅

open Classical in
/-- The barrier cells at 1, hop `x`'s receive cells at `lev x + 2`, all others at 0. -/
def lv (g : GSem nD τ sig) (_ : Unit) : ℕ :=
  if g.2 = .reg barS then 1 else if h : ∃ x, SemLoc.dma (rSem x) = g.2 then lev h.choose + 2 else 0

theorem L_of_ne (g : GSem nD τ sig) (h : g.1.2 ≠ .tc) : L g = ∅ := if_neg h
theorem L_tc (c : Dev nD) (sm : SemLoc sig) : L ((c : Thread nD τ), sm) = {()} := if_pos rfl

theorem rSem_injective : Function.Injective rSem := fun a b e =>
  (Prod.mk.inj (ringSem_injective (a₁ := (a, true)) (a₂ := (b, true)) e)).1

theorem lv_bar (c : Dev nD) : lv (barCell c) () = 1 := if_pos rfl
theorem lv_recv (c : Dev nD) (x : Hop) : lv (recvCell c x) () = lev x + 2 := by
  unfold lv
  have h : ∃ y, SemLoc.dma (rSem y) = (recvCell c x).2 := ⟨x, rfl⟩
  rw [if_neg (dma_ne_bar _), dif_pos h]
  have e : h.choose = x := rSem_injective (SemLoc.dma.inj h.choose_spec)
  rw [e]
theorem lv_other (c : Dev nD) (q : DmaSem sig) (hq : ∀ x, rSem x ≠ q) : lv ((c : Thread nD τ), .dma q) () = 0 := by
  unfold lv
  rw [if_neg (dma_ne_bar _), dif_neg]
  rintro ⟨x, hx⟩
  exact hq x (SemLoc.dma.inj hx)

theorem rSem_ne_send (x y : Hop) : rSem x ≠ sSem y := fun h =>
  absurd (Prod.mk.inj (ringSem_injective (a₁ := (x, true)) (a₂ := (y, false)) h)).2 (by decide)
theorem ringSem_ne_low (k : Hop × Bool) (q : DmaSem sig) (hq : q.val < 4) : ringSem k ≠ q := fun h => by
  have h₁ := ringSem_val k
  have h₂ := ringNo_ge k
  rw [h] at h₁
  omega
theorem rSem_ne_low (x : Hop) (q : DmaSem sig) (hq : q.val < 4) : rSem x ≠ q := ringSem_ne_low (x, true) q hq

/-- A device may wait on a cell that lies below all it owes. -/
theorem mayWait_below (c : Dev nD) (sm : SemLoc sig) (O : CellTallies nD τ sig Unit) (k : ℕ)
    (hk : lv ((c : Thread nD τ), sm) () ≤ k) (hO : ∀ g u, 0 < O g u → g.1.2 = .tc ∧ k < lv g ()) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

/-- Owing the hops from place `n` on, a device may wait on a cell of level at most `n + 1`. -/
theorem mayWait_from (c : Dev nD) (sm : SemLoc sig) (n : ℕ) (hk : lv ((c : Thread nD τ), sm) () ≤ n + 1) :
    (levAts L lv : sProp 𝕄) ⊢ MayWait (c : Thread nD τ) sm () (owedFrom c n) :=
  mayWait_below c sm _ (n + 1) hk fun g u hg => by
    obtain ⟨x, hx, rfl⟩ := owedFrom_pos hg
    exact ⟨rfl, by rw [lv_recv]; omega⟩

theorem O₀_pos {c : Dev nD} {g : GSem nD τ sig} {u : Unit} (h : 0 < O₀ c g u) :
    (∃ x, g = recvCell (peer x c) x) ∨ g = barCell (nxt c) ∨ g = barCell (prv c) := by
  unfold O₀ O₁ at h
  rw [Pi.add_apply, Finsupp.add_apply, Pi.add_apply, Finsupp.add_apply, tallyAt_apply, tallyAt_apply] at h
  by_cases h₁ : g = barCell (nxt c)
  · exact .inr (.inl h₁)
  by_cases h₂ : g = barCell (prv c)
  · exact .inr (.inr h₂)
  rw [if_neg (fun h' => h₁ h'.1), if_neg (fun h' => h₂ h'.1)] at h
  obtain ⟨x, -, e⟩ := owedFrom_pos (c := c) (n := 0) (g := g) (u := u) (by omega)
  exact .inl ⟨x, e⟩

/-- A staging semaphore may be waited on while everything is owed, and when nothing is. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait_below c _ _ 0 (le_of_eq (lv_other c q fun x => rSem_ne_low x q hq)) fun g u hg => ?_
    rcases O₀_pos hg with ⟨x, rfl⟩ | rfl | rfl
    · exact ⟨rfl, by rw [lv_recv]; omega⟩
    · exact ⟨rfl, by rw [lv_bar]; omega⟩
    · exact ⟨rfl, by rw [lv_bar]; omega⟩
  · rw [MayWait_zero]; iintro -; iempintro

end Cert.KernelIdeal.Ring

end
-- ==== Proof.IdealSteps.lean ====
/-
The rule of each step: what it takes and what it leaves, at any device, hop, tile and block.
-/
module

public import proofs.«01_k».proof.Proof.IdealProtocol

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The steps at a hop -/

/-- Hop `x`'s transfer, the wait for what it brings, the wait for it to have left; a block's product into tile `s`, and the
    wait for tile `s`'s copy-out. -/
def fwdX (c : Dev nD) (x : Hop) : PP (F := F) PUnit := fwd (rowOff (src x c)) (inA _) (words _) (peer x c) (sSem x) (rSem x)
def awaitX (c : Dev nD) (x : Hop) : PP (F := F) PUnit := await (rowOff (src x c)) (inA _) (words _) (rSem x)
def sentX (c : Dev nD) (x : Hop) : PP (F := F) PUnit := await (rowOff (src x c)) (inA _) (words _) (sSem x)
def emitX (s : Fin 2) (d : Dev nD) : PP (F := F) PUnit := emit s (rowOff d) (inA d) (rowOff d) (inO d)
def drainX (s : Fin 2) (d : Dev nD) : PP (F := F) PUnit := drain s (rowOff d) (inO d)

theorem fwd_congr {o o' : Off} {h h' hw hw'} {n n' : Dev nD} {s r : DmaSem sig} (e : o = o') (en : n = n') :
    (fwd o h hw n s r : PP (F := F) PUnit) = fwd o' h' hw' n' s r := by subst e; subst en; rfl
theorem await_congr {o o' : Off} {h h' hw hw'} {q : DmaSem sig} (e : o = o') :
    (await o h hw q : PP (F := F) PUnit) = await o' h' hw' q := by subst e; rfl
theorem emit_congr {s : Fin 2} {o o' p p' : Off} {h h' g g'} (e : o = o') (e' : p = p') :
    (emit s o h p g : PP (F := F) PUnit) = emit s o' h' p' g' := by subst e; subst e'; rfl
theorem drain_congr {s : Fin 2} {o o' : Off} {h h'} (e : o = o') : (drain s o h : PP (F := F) PUnit) = drain s o' h' := by subst e; rfl

section Norm
variable (c : Dev nD)
theorem fwdR_eq (h : Fin 16) : (fwdR c h : PP (F := F) PUnit) = fwdX c (.inl h) := fwd_congr (off2_eq c h) (dev3_eq c)
theorem fwdL_eq (h : Fin 15) : (fwdL c h : PP (F := F) PUnit) = fwdX c (.inr h) := fwd_congr (off3_eq c h) (dev4_eq c)
theorem awaitR_eq (h : Fin 16) : (awaitR c h : PP (F := F) PUnit) = awaitX c (.inl h) := await_congr (off2_eq c h)
theorem awaitL_eq (h : Fin 15) : (awaitL c h : PP (F := F) PUnit) = awaitX c (.inr h) := await_congr (off3_eq c h)
theorem sentR_eq (h : Fin 16) : (sentR c h : PP (F := F) PUnit) = sentX c (.inl h) := await_congr (off2_eq c h)
theorem sentL_eq (h : Fin 15) : (sentL c h : PP (F := F) PUnit) = sentX c (.inr h) := await_congr (off3_eq c h)
theorem emitR_eq (h : Fin 16) : (emitR c h : PP (F := F) PUnit) = emitX 1 (got (.inl h) c) := emit_congr (off6_eq c h) (off7_eq c h)
theorem emitL_eq (h : Fin 15) : (emitL c h : PP (F := F) PUnit) = emitX 0 (got (.inr h) c) := emit_congr (off8_eq c h) (off9_eq c h)
theorem emitOwn_eq : (emitOwn c : PP (F := F) PUnit) = emitX 0 c := emit_congr (off4_eq c) (off5_eq c)
theorem drainR_eq (h : Fin 16) : (drainR c h : PP (F := F) PUnit) = drainX 1 (got (.inl h) c) := drain_congr (off7_eq c h)
theorem drainL_eq (h : Fin 15) : (drainL c h : PP (F := F) PUnit) = drainX 0 (got (.inr h) c) := drain_congr (off9_eq c h)
theorem drainOwn_eq : (drainOwn c : PP (F := F) PUnit) = drainX 0 c := drain_congr (off5_eq c)
end Norm

/-! ## The records every device shares -/

/-- A device's cells: its barrier's and its hops'. -/
abbrev CI : Type := Option (Hop × Bool)
def kcell (p : Dev nD × CI) : GSem nD τ sig := match p.2 with
  | none => barCell p.1
  | some k => hopCell p.1 k

/-- Every cell's invariant, that every cell is at its first round, and the levels. -/
def Recs (κ : Dev nD × CI → ℕ) : sProp 𝕄 :=
  iprop((bigSep Finset.univ fun p : Dev nD × CI => cellInv ER (ringRd m) (κ p) (kcell p))
    ∗ (bigSep Finset.univ fun p : Dev nD × CI => reached ER (kcell p) 0) ∗ levAts L lv)

instance Recs_persistent (κ : Dev nD × CI → ℕ) : BI.Persistent (Recs m κ) := by unfold Recs; infer_instance

theorem Recs_inv (κ : Dev nD × CI → ℕ) (p : Dev nD × CI) : Recs m κ ⊢ (cellInv ER (ringRd m) (κ p) (kcell p) : sProp 𝕄) := by
  unfold Recs
  iintro ⟨#HI, -⟩
  iapply (bigSep_elim (Finset.mem_univ p) : _ ⊢ (cellInv ER (ringRd m) (κ p) (kcell p) : sProp 𝕄)) $$ HI
theorem Recs_reached (κ : Dev nD × CI → ℕ) (p : Dev nD × CI) : Recs m κ ⊢ (reached ER (kcell p) 0 : sProp 𝕄) := by
  unfold Recs
  iintro ⟨-, #HR, -⟩
  iapply (bigSep_elim (Finset.mem_univ p) : _ ⊢ (reached ER (kcell p) 0 : sProp 𝕄)) $$ HR
theorem Recs_lev (κ : Dev nD × CI → ℕ) : Recs m κ ⊢ (levAts L lv : sProp 𝕄) := by
  unfold Recs
  iintro ⟨-, -, H⟩
  iexact H

/-- What device `c` owes, whatever it has waited on. -/
def ow (c : Dev nD) (O : CellTallies nD τ sig Unit) : sProp 𝕄 := iprop(∃ W, owes (c : Thread nD τ) O W)

/-- Hop `x`'s wait ahead of device `c`: its place in the receive cell and the credit it was promised. -/
def RTodo (c : Dev nD) (x : Hop) : sProp 𝕄 := iprop(atPos ER (recvCell c x) 0 ∅ 0 ∗ cred (tallyAt (recvCell c x) () N))
/-- Hop `x`'s transfer ahead of device `c`: the two cells' duties and its place in the send cell; with the slot it writes. -/
def STok (c : Dev nD) (x : Hop) : sProp 𝕄 :=
  iprop(dutyTok ER (sendCell c x) 0 false ∗ dutyTok ER (recvCell (peer x c) x) 0 false ∗ atPos ER (sendCell c x) 0 ∅ 0)
def STodo (c : Dev nD) (x : Hop) : sProp 𝕄 := iprop(STok c x ∗ land (peer x c) x)
/-- Hop `x`'s transfer under way. -/
def SFly (c : Dev nD) (x : Hop) : sProp 𝕄 := iprop(atPos ER (sendCell c x) 0 ∅ 0 ∗ cred (tallyAt (sendCell c x) () N))

abbrev wpC (c : Dev nD) {α : Type} (p : PP (F := F) α) (Q : α → sProp 𝕄) : sProp 𝕄 :=
  wp frame (wpE (defs₀ (F := F)) 𝒱₀ (c : Thread nD τ) none) Set.univ p Q

section Steps
variable (κ : Dev nD × CI → ℕ) (c : Dev nD)

/-- A wait on hop cell `k`: the cell closed at zero, with what its round hands over. -/
theorem step_wait (k : Hop × Bool) (d : Dev nD) (n : ℕ) (hn : lv (hopCell c k) () ≤ n + 1) {Q : PUnit → sProp 𝕄} :
    iprop(Recs m κ ∗ atPos ER (hopCell c k) 0 ∅ 0 ∗ cred (tallyAt (hopCell c k) () N) ∗ ow c (owedFrom c n))
      ⊢ iprop(((semVal (hopCell c k) 0 ∗ hopPay m c k ∗ ow c (owedFrom c n)) -∗ Q ⟨⟩)
          -∗ wpC c (await (rowOff d) (inA d) (words d) (ringSem k)) Q) := by
  unfold await ow
  simp only [Prog.lift]
  iintro ⟨#HR, Hat, Hc, ⟨%W, HO⟩⟩ Hk
  iapply (Rounds.wp_wait_rest_token 𝒱₀ ER (ringRd m) (c : Thread nD τ) none (κ := κ (c, some k))
      (wpE_waitDma2_eq 𝒱₀ (c : Thread nD τ) none Set.univ) (Set.mem_univ _) () (O := owedFrom c n) (W := W) (R := 0) (m := 0) (T := ∅)
      (by rw [expect_hop]; exact Nat.zero_add _)) $$ [Hc HO Hat]
  · isplitr; · iapply (Recs_inv m κ (c, some k)); iexact HR
    isplitl [Hc]; · iexact Hc
    isplitl [HO]; · iexact HO
    isplitr; · iapply (mayWait_from c (.dma (ringSem k)) n hn); iapply (Recs_lev m κ); iexact HR
    iexact Hat
  iintro ⟨HO, Hat, -, Hpay⟩
  ihave Hp := (Entails.of_eq (rest_hop m c k)) $$ Hpay
  imod (Rounds.cell_close ER (ringRd m) (κ := κ (c, some k)) (Set.mem_univ _) id (R := 0 + 1) (duties_later m _)) $$ [Hat] with Hv
  · isplitr; · iapply (Recs_inv m κ (c, some k)); iexact HR
    iexact Hat
  rw [wp_ret]
  imodintro
  iapply Hk
  isplitl [Hv]; · iexact Hv
  isplitl [Hp]; · iexact Hp
  iexists (insert (SemLoc.dma (ringSem k), ()) W)
  iexact HO

/-- The wait for what hop `x` brings: the slot it wrote, whole, holding its block. -/
theorem step_await (x : Hop) (n : ℕ) (hn : lev x + 1 ≤ n) {Q : PUnit → sProp 𝕄} :
    iprop(Recs m κ ∗ RTodo c x ∗ ow c (owedFrom c n))
      ⊢ iprop(((semVal (recvCell c x) 0 ∗ slot c (got x c) fullShare (gath m) ∗ ow c (owedFrom c n)) -∗ Q ⟨⟩) -∗ wpC c (awaitX c x) Q) := by
  unfold RTodo
  iintro ⟨HR, ⟨Hat, Hc⟩, HO⟩
  iapply (step_wait m κ c (x, true) (src x c) n (by rw [show hopCell c (x, true) = recvCell c x from rfl, lv_recv]; omega))
  isplitl [HR]; · iexact HR
  isplitl [Hat]; · iexact Hat
  isplitl [Hc]; · iexact Hc
  iexact HO

/-- The wait for hop `x`'s transfer to have left: the share of the slot it read. -/
theorem step_sent (x : Hop) (n : ℕ) {Q : PUnit → sProp 𝕄} :
    iprop(Recs m κ ∗ SFly c x ∗ ow c (owedFrom c n))
      ⊢ iprop(((semVal (sendCell c x) 0 ∗ slot c (src x c) (qS x) (gath m) ∗ ow c (owedFrom c n)) -∗ Q ⟨⟩) -∗ wpC c (sentX c x) Q) := by
  unfold SFly
  iintro ⟨HR, ⟨Hat, Hc⟩, HO⟩
  iapply (step_wait m κ c (x, false) (src x c) n (by
    rw [show hopCell c (x, false) = sendCell c x from rfl, lv_other c (sSem x) fun y => rSem_ne_send y x]; omega))
  isplitl [HR]; · iexact HR
  isplitl [Hat]; · iexact Hat
  isplitl [Hc]; · iexact Hc
  iexact HO

/-- A slot rewritten with what the same slot of the gathered `A` reads holds that block of it. -/
theorem slot_landed (c' : Dev nD) (d : Dev nD) (f : Buf (Elt F) ((gS d).view.loc (c' : Thread nD τ))) :
    ((gS d).view.loc (c' : Thread nD τ) ↦[(gS d).view.set]{fullShare} (gS d).view.write (Elt F) f ((gS d).view.read (Elt F) (gath m)) Finset.univ : sProp 𝕄)
      = slot c' d fullShare (gath m) := by
  unfold slot
  refine pointsTo_congr fun i hi => ?_
  rw [View.write_read_eq_piecewise]
  exact Finset.piecewise_eq_of_mem _ _ _ hi

theorem amount_gS (d : Dev nD) (r : DmaSem sig) : (gS d).view.amount (.dma r) = N := rfl

theorem pay_send (x : Hop) : (slot c (src x c) (qS x) (gath m) : sProp 𝕄) ⊢ (ringRd m).payload (sendCell c x) 0 false :=
  Entails.of_eq (payload_hop m c (x, false) false).symm
theorem pay_recv (x : Hop) (f : Buf (Elt F) ((gS (src x c)).view.loc (peer x c : Thread nD τ))) :
    ((gS (src x c)).view.loc (peer x c : Thread nD τ) ↦[(gS (src x c)).view.set]{fullShare}
        (gS (src x c)).view.write (Elt F) f ((gS (src x c)).view.read (Elt F) (gath m)) Finset.univ : sProp 𝕄)
      ⊢ (ringRd m).payload (recvCell (peer x c) x) 0 false := by
  refine Entails.of_eq ((slot_landed m (peer x c) (src x c) f).trans ?_)
  refine Eq.trans ?_ (payload_hop m (peer x c) (x, true) false).symm
  show _ = slot (peer x c) (got x (peer x c)) fullShare (gath m)
  rw [got_peer]

/-- The rule of a transfer of block `d` between two of the ring's cells, `k₁` of the sender and `k₂` of the receiver `n`. -/
theorem send_ring (n d : Dev nD) (k₁ k₂ : Hop × Bool) (q : PosShare TreeShare) (O₁ O₂ : CellTallies nD τ sig Unit)
    (hO : O₁ = O₂ + tallyAt (hopCell n k₂) () N)
    (f : Buf (Elt F) ((gS d).view.loc (n : Thread nD τ)))
    (h₁ : slot c d q (gath m) ⊢ (ringRd m).payload (hopCell c k₁) 0 false)
    (h₂ : ((gS d).view.loc (n : Thread nD τ) ↦[(gS d).view.set]{fullShare}
        (gS d).view.write (Elt F) f ((gS d).view.read (Elt F) (gath m)) Finset.univ : sProp 𝕄)
      ⊢ (ringRd m).payload (hopCell n k₂) 0 false) (W : Waits sig Unit)
    {hsc : (gS d : Memref sig (Dev.tc n : Thread nD τ).2.kind .vmem S512x256 .bf16).view.ref.isScScratch = false}
    {hsrc hdst : (gS d).view.WordExact}
    {hsem : DmaTarget.Typed .vmem (.dma (ringSem k₂)) (.remote (Dev.tc n : Thread nD τ) (gS d) (.dma (ringSem k₁)) hsc)}
    {Q : PUnit → sProp 𝕄} {k : PUnit → PP (F := F) PUnit} :
    iprop(cellInv ER (ringRd m) (κ (c, some k₁)) (hopCell c k₁) ∗ cellInv ER (ringRd m) (κ (n, some k₂)) (hopCell n k₂)
        ∗ slot c d q (gath m) ∗ slot n d fullShare f
        ∗ owes (c : Thread nD τ) O₁ W
        ∗ dutyTok ER (hopCell c k₁) 0 false ∗ reached ER (hopCell c k₁) 0
        ∗ dutyTok ER (hopCell n k₂) 0 false ∗ reached ER (hopCell n k₂) 0)
      ⊢ iprop(((cred (tallyAt (hopCell c k₁) () N) ∗ owes (c : Thread nD τ) O₂ W) -∗ wpC c (k ⟨⟩) Q)
          -∗ wpC c (.op (.enqueueDma (gS d) (.remote (Dev.tc n : Thread nD τ) (gS d) (.dma (ringSem k₁)) hsc) (.dma (ringSem k₂)) hsrc hdst hsem) k) Q) := by
  unfold slot at h₁ ⊢
  exact Rounds.wp_send_pointsTo 𝒱₀ ER (ringRd m) (c : Thread nD τ) none
      (κ₁ := κ (c, some k₁)) (κ₂ := κ (n, some k₂))
      (r₁ := 0) (r₂ := 0) (d₁ := false) (d₂ := false) (fd := f)
      (by rw [duties_hop]; exact Finset.mem_singleton_self _)
      (by rw [duties_hop]; exact Finset.mem_singleton_self _)
      () () N (amount_gS _ _) (amount_hop m c k₁ false) (amount_hop m n k₂ false)
      O₂ hO (W := W) h₁ h₂

/-- Hop `x`'s transfer: the credit it owed the neighbour is paid. -/
theorem step_fwd (x : Hop) (n : ℕ) (hn : lev x = n) {Q : PUnit → sProp 𝕄} :
    iprop(Recs m κ ∗ slot c (src x c) (qS x) (gath m) ∗ STodo c x ∗ ow c (owedFrom c n))
      ⊢ iprop(((SFly c x ∗ ow c (owedFrom c (n + 1))) -∗ Q ⟨⟩) -∗ wpC c (fwdX c x) Q) := by
  unfold fwdX fwd ow STodo STok land
  rw [got_peer]
  simp only [Prog.lift]
  iintro ⟨#HR, Hs, ⟨⟨Hd₁, Hd₂, Hat⟩, ⟨%f, Hd⟩⟩, ⟨%W, HO⟩⟩ Hk
  iapply (send_ring m κ c (peer x c) (src x c) (x, false) (x, true) (qS x) (owedFrom c n) (owedFrom c (n + 1)) (owedFrom_step c x n hn) f
    (pay_send m c x) (pay_recv m c x f) W) $$ [Hs Hd₁ Hd₂ Hd HO]
  · isplitr; · iapply (Recs_inv m κ (c, some (x, false))); iexact HR
    isplitr; · iapply (Recs_inv m κ (peer x c, some (x, true))); iexact HR
    isplitl [Hs]; · iexact Hs
    isplitl [Hd]; · iexact Hd
    isplitl [HO]; · iexact HO
    isplitl [Hd₁]; · iexact Hd₁
    isplitr; · iapply (Recs_reached m κ (c, some (x, false))); iexact HR
    isplitl [Hd₂]; · iexact Hd₂
    iapply (Recs_reached m κ (peer x c, some (x, true))); iexact HR
  iintro ⟨Hc, HO⟩
  unfold wpC
  rw [wp_ret]
  imodintro
  iapply Hk
  unfold SFly
  isplitl [Hat Hc]
  · isplitl [Hat]; · iexact Hat
    iexact Hc
  iexists W
  iexact HO

end Steps

end Cert.KernelIdeal.Ring

end
-- ==== Proof.IdealTiles.lean ====
/-
The rules of the steps that use the device's own buffers: a block's product and its copy-out, the wait for that, the casts,
and the handshake.
-/
module

public import proofs.«01_k».proof.Proof.IdealSteps

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result tiles -/

section Tiles
variable (c : Dev nD)

/-- `B` in bf16; block `d` of the result; result tile `s`; the tile free, with its copy's semaphore at zero. -/
def wPts : sProp 𝕄 := (wM.view.loc (c : Thread nD τ)) ↦{fullShare} wIn m c
def oP (d : Dev nD) (f : Buf (Elt F) ((oS d).view.loc (c : Thread nD τ))) : sProp 𝕄 :=
  (oS d).view.loc (c : Thread nD τ) ↦[(oS d).view.set]{fullShare} f
def tileP (s : Fin 2) (f : Buf (Elt F) ((tAt s).view.loc (c : Thread nD τ))) : sProp 𝕄 :=
  (tAt s).view.loc (c : Thread nD τ) ↦[(tAt s).view.set]{fullShare} f
def copyCell (s : Fin 2) : GSem nD τ sig := ((c : Thread nD τ), .dma (copyS s))
def TFree (s : Fin 2) : sProp 𝕄 := iprop((∃ f, tileP c s f) ∗ semVal (copyCell c s) 0)

/-- A copy-out's credit. -/
abbrev NT : ℕ := (oS (0 : Dev nD)).view.dmaCredit
theorem NT_pos : 0 < NT := View.dmaCredit_pos _ (by decide)

/-- The copy-out of block `d`'s product from tile `s`, under way. -/
def OutFly (s : Fin 2) (d : Dev nD) : sProp 𝕄 :=
  iprop(∃ f, Transfers.Flight EC (c : Thread nD τ) (.dma (copyS s)) () NT iprop(oP c d (prodOf m c) ∗ tileP c s f))

/-- What a slot of the gathered `A` reads, and a block of the result. -/
theorem read_gath (d : Dev nD) : (gS d).view.read (Elt F) (gath m) = k0_pay2 (aIn m d) :=
  funext fun x => stack_emb d (inA d) (fun d => k0_pay2 (aIn m d)) x
theorem read_prod (d : Dev nD) : (oS d).view.read (Elt F) (prodOf m c) = k0_pay3 (k0_pay2 (aIn m d)) (wIn m c) :=
  funext fun x => stack_emb d (inO d) (fun d => k0_pay3 (k0_pay2 (aIn m d)) (wIn m c)) x

theorem zeros2 : (![0, 0] : Fin 2 → ℕ) = fun _ => 0 := funext fun a => by fin_cases a <;> rfl

/-- What the copy-out of a tile reads, the tile just stored as a one-matrix stack. -/
theorem read_tile (s : Fin 2) (a : Vec F S512x256 .bf16) (b : Vec F S256x512 .bf16) (f : Buf (Elt F) ((tAt s).view.loc (c : Thread nD τ))) :
    (tAt s).view.read (Elt F) ((tM.access (rectT s)).write (Elt F) f (tile a b) Finset.univ) = k0_pay3 a b := by
  have h := View.read_write_univ (Val := Elt F) (v := tM.access (rectT s)) f (tile a b)
  funext x
  have hx := congrFun h (Shape.reshapeEquiv (s := S1x512x512) (s' := S512x512) (by decide) x)
  refine Eq.trans (Eq.trans ?_ hx) ?_
  · rfl
  · show k0_pay3 a b (Shape.reshapeEquiv _ (Shape.reshapeEquiv _ x)) = _
    rw [Shape.reshapeEquiv_reshapeEquiv, Shape.reshapeEquiv_self]

/-- Block `d` of the result rewritten with its product. -/
theorem oP_landed (d : Dev nD) (f : Buf (Elt F) ((oS d).view.loc (c : Thread nD τ))) :
    oP c d ((oS d).view.write (Elt F) f (k0_pay3 (k0_pay2 (aIn m d)) (wIn m c)) Finset.univ) = (oP c d (prodOf m c) : sProp 𝕄) := by
  unfold oP
  refine pointsTo_congr fun i hi => ?_
  rw [← read_prod, View.write_read_eq_piecewise]
  exact Finset.piecewise_eq_of_mem _ _ _ hi

theorem tile_sub (s : Fin 2) : (tM : Memref sig .tc .vmem S2x512x512 .f32).view.setOn (rectT s).toLoadRect.set ⊆ (tAt s).view.set := by
  exact subset_of_eq ((View.set_slice (v := (tM : Memref sig .tc .vmem S2x512x512 .f32).view) (rectT s)).symm.trans (View.set_reshape _ _).symm)
theorem tile_acc (s : Fin 2) : (tM.access (rectT s) : View sig .tc _ _ _).setOn Finset.univ ⊆ (tAt s).view.set :=
  subset_of_eq (Eq.trans (View.set_slice_whole _ _) ((View.set_reshape _ _).trans (View.set_slice_whole _ _)).symm)

theorem readAt_slot (d : Dev nD) (f : Buf (Elt F) ((gS d).view.loc (c : Thread nD τ))) :
    (gS d).view.readAt (Elt F) (Rect.unit (s := S512x256) ![0, 0] S512x256.size inb_S512x256_S512x256_0_0).toLoadRect f
      = (gS d).view.read (Elt F) f := by
  funext x
  refine congrArg ((gS d).view.read (Elt F) f) (?_ : (Rect.unit (s := S512x256) ![0, 0] S512x256.size inb_S512x256_S512x256_0_0).emb x = x)
  funext a
  refine Fin.ext ((Rect.emb_apply _ _ _).trans ?_)
  fin_cases a
  · show 0 + 1 * (x 0).val = (x 0).val; omega
  · show 0 + 1 * (x 1).val = (x 1).val; omega
theorem readAt_w (f : Vec F S256x512 .bf16) :
    (wM : Memref sig .tc .vmem S256x512 .bf16).view.readAt (Elt F) (Rect.unit (s := S256x512) ![0, 0] S256x512.size inb_S256x512_S256x512_0_0).toLoadRect f = f :=
  Memref.readAt_unit_zero (Elt F) cc0_scratch1 zeros2 _ f
theorem readAt_a (f : Vec F S512x256 .f32) :
    (aM : Memref sig .tc .vmem S512x256 .f32).view.readAt (Elt F) (Rect.unit (s := S512x256) ![0, 0] S512x256.size inb_S512x256_S512x256_0_0).toLoadRect f = f :=
  Memref.readAt_unit_zero (Elt F) cc0_stg0_0 zeros2 _ f
theorem readAt_b (f : Vec F S256x512 .f32) :
    (bM : Memref sig .tc .vmem S256x512 .f32).view.readAt (Elt F) (Rect.unit (s := S256x512) ![0, 0] S256x512.size inb_S256x512_S256x512_0_0).toLoadRect f = f :=
  Memref.readAt_unit_zero (Elt F) cc0_stg1_0 zeros2 _ f
theorem write_w (f w : Vec F S256x512 .bf16) :
    (wM.access (Rect.unit (s := S256x512) ![0, 0] S256x512.size inb_S256x512_S256x512_0_0) : View sig .tc _ _ _).write (Elt F) f w Finset.univ = w :=
  Memref.write_access_unit_zero_univ (Elt F) cc0_scratch1 zeros2 _ f w

/-- Block `d`'s product into tile `s`, and its copy-out started. -/
theorem step_emit (s : Fin 2) (d : Dev nD) (q : PosShare TreeShare) {Q : PUnit → sProp 𝕄} :
    iprop(slot c d q (gath m) ∗ wPts m c ∗ TFree c s ∗ (∃ f, oP c d f))
      ⊢ iprop(((slot c d q (gath m) ∗ wPts m c ∗ OutFly m c s d) -∗ Q ⟨⟩) -∗ wpC c (emitX s d) Q) := by
  unfold emitX emit TFree
  simp only [Prog.lift, Prog.bind_op, Prog.bind_ret]
  iintro ⟨Hs, Hw, ⟨⟨%ft, Ht⟩, Hv⟩, ⟨%fo, Ho⟩⟩ Hk
  unfold slot wPts tileP oP
  iapply (wp_load 𝒱₀ (c : Thread nD τ) none Set.univ (m := gS d) (S := (gS d).view.set) (View.setOn_subset_set _ _)) $$ Hs
  iintro Hs
  iapply (wp_load 𝒱₀ (c : Thread nD τ) none Set.univ (m := wM) (S := Finset.univ) (Finset.subset_univ _)) $$ Hw
  iintro Hw
  iapply (wp_load 𝒱₀ (c : Thread nD τ) none Set.univ (m := tM) (S := (tAt s).view.set) (tile_sub s)) $$ Ht
  iintro Ht
  iapply (wp_store 𝒱₀ (c : Thread nD τ) none Set.univ (m := tM) (r := rectT s) (Mk := Finset.univ) (S := (tAt s).view.set) (tile_acc s)) $$ Ht
  iintro Ht
  rw [readAt_slot c, read_gath, readAt_w]
  iapply (Transfers.wp_dmaLocal EC 𝒱₀ (c : Thread nD τ) none (src := tAt s) (dst := oS d) (q := fullShare) (Sd := (oS d).view.set) (fd := fo)
    () NT rfl NT_pos (Finset.Subset.refl _)) $$ [Ht Ho Hv]
  · isplitl [Ht]; · iexact Ht
    isplitl [Ho]; · iexact Ho
    iexact Hv
  iintro Hf
  rw [wp_ret]
  imodintro
  iapply Hk
  isplitl [Hs]; · iexact Hs
  isplitl [Hw]; · iexact Hw
  unfold OutFly
  iexists _
  iapply (Entails.of_eq (congrArg (fun D => Transfers.Flight EC (c : Thread nD τ) (.dma (copyS s)) () NT iprop(D ∗ _)) (oP_landed m c d fo)))
  rw [ReadAs.apply_same, read_tile]
  unfold oP tileP
  iexact Hf

/-- The wait for tile `s`'s copy-out: block `d` of the result at its value, the tile free again. -/
theorem step_drain (κ : Dev nD × CI → ℕ) (s : Fin 2) (d : Dev nD) (n : ℕ) {Q : PUnit → sProp 𝕄} :
    iprop(Recs m κ ∗ OutFly m c s d ∗ ow c (owedFrom c n))
      ⊢ iprop(((oP c d (prodOf m c) ∗ TFree c s ∗ ow c (owedFrom c n)) -∗ Q ⟨⟩) -∗ wpC c (drainX s d) Q) := by
  unfold drainX drain OutFly ow TFree
  simp only [Prog.lift]
  iintro ⟨#HR, ⟨%f, Hf⟩, ⟨%W, HO⟩⟩ Hk
  iapply (Transfers.wp_waitLocalO EC 𝒱₀ (c : Thread nD τ) none (dstw := oS d) () rfl (N := NT) (O := owedFrom c n) (W := W)) $$ [Hf HO]
  · isplitl [Hf]; · iexact Hf
    isplitl [HO]; · iexact HO
    iapply (mayWait_from c (.dma (copyS s)) n (by
      rw [lv_other c (copyS s) fun x => rSem_ne_low x (copyS s) (by rw [copyS_val]; omega)]; omega))
    iapply (Recs_lev m κ); iexact HR
  iintro ⟨⟨Ho, Ht⟩, Hv, HO⟩
  rw [wp_ret]
  imodintro
  iapply Hk
  isplitl [Ho]; · iexact Ho
  isplitl [Ht Hv]
  · isplitl [Ht]; · iexists f; iexact Ht
    unfold copyCell; iexact Hv
  iexists _
  iexact HO

/-! ## The casts -/

theorem own_sub : (gM : Memref sig .tc .vmem S16384x256 .bf16).view.setOn
    (Rect.unit (s := S16384x256) (k0_off1 c) S512x256.size (k0_off1_inb c)).toLoadRect.set ⊆ (gS c).view.set := by
  have h : ∀ (o : Off) (hi : InA o), o = rowOff c → (gM : Memref sig .tc .vmem S16384x256 .bf16).view.setOn
      (Rect.unit (s := S16384x256) o S512x256.size hi).toLoadRect.set ⊆ (gS c).view.set := by
    rintro o hi rfl
    exact subset_of_eq (View.set_slice _ _).symm
  exact h _ _ (off1_eq c)
theorem own_acc : (gM.access (Rect.unit (s := S16384x256) (k0_off1 c) S512x256.size (k0_off1_inb c)) : View sig .tc _ _ _).setOn Finset.univ
    ⊆ (gS c).view.set := by
  have h : ∀ (o : Off) (hi : InA o), o = rowOff c →
      (gM.access (Rect.unit (s := S16384x256) o S512x256.size hi) : View sig .tc _ _ _).setOn Finset.univ ⊆ (gS c).view.set := by
    rintro o hi rfl
    exact Finset.Subset.refl _
  exact h _ _ (off1_eq c)
/-- The own slot rewritten with the cast of the own rows holds the own block of the gathered `A`. -/
theorem own_landed (f : Buf (Elt F) (gM.view.loc (c : Thread nD τ))) :
    ((gM.view.loc (c : Thread nD τ)) ↦[(gS c).view.set]{fullShare}
        ((gM.access (Rect.unit (s := S16384x256) (k0_off1 c) S512x256.size (k0_off1_inb c)) : View sig .tc _ _ _).write (Elt F) f (k0_pay2 (aIn m c)) Finset.univ) : sProp 𝕄)
      = ((gS c).view.loc (c : Thread nD τ) ↦[(gS c).view.set]{fullShare} gath m) := by
  have h : ∀ (o : Off) (hi : InA o), o = rowOff c →
      ((gM.view.loc (c : Thread nD τ)) ↦[(gS c).view.set]{fullShare}
        ((gM.access (Rect.unit (s := S16384x256) o S512x256.size hi) : View sig .tc _ _ _).write (Elt F) f (k0_pay2 (aIn m c)) Finset.univ) : sProp 𝕄)
      = ((gS c).view.loc (c : Thread nD τ) ↦[(gS c).view.set]{fullShare} gath m) := by
    rintro o hi rfl
    rw [← read_gath]
    exact slot_landed m c c f
  exact h _ _ (off1_eq c)

/-- The casts: `B` in bf16, and the device's own rows of `A` in its own slot. -/
theorem step_casts {Q : PUnit → sProp 𝕄} :
    iprop((aM.view.loc (c : Thread nD τ) ↦{fullShare} aIn m c) ∗ (bM.view.loc (c : Thread nD τ) ↦{fullShare} bIn m c)
        ∗ (∃ f, wM.view.loc (c : Thread nD τ) ↦{fullShare} f) ∗ (∃ f, slot c c fullShare f))
      ⊢ iprop((((aM.view.loc (c : Thread nD τ) ↦{fullShare} aIn m c) ∗ (bM.view.loc (c : Thread nD τ) ↦{fullShare} bIn m c)
          ∗ wPts m c ∗ slot c c fullShare (gath m)) -∗ Q ⟨⟩) -∗ wpC c (casts c) Q) := by
  unfold casts
  simp only [Prog.lift, Prog.bind_op, Prog.bind_ret]
  iintro ⟨Ha, Hb, ⟨%fw, Hw⟩, ⟨%fg, Hg⟩⟩ Hk
  iapply (wp_load 𝒱₀ (c : Thread nD τ) none Set.univ (m := bM) (S := Finset.univ) (Finset.subset_univ _)) $$ Hb
  iintro Hb
  iapply (wp_load 𝒱₀ (c : Thread nD τ) none Set.univ (m := wM) (S := Finset.univ) (Finset.subset_univ _)) $$ Hw
  iintro Hw
  iapply (wp_store 𝒱₀ (c : Thread nD τ) none Set.univ (m := wM) (r := Rect.unit (s := S256x512) ![0, 0] S256x512.size inb_S256x512_S256x512_0_0)
    (Mk := Finset.univ) (S := Finset.univ) (Finset.subset_univ _)) $$ Hw
  iintro Hw
  iapply (wp_load 𝒱₀ (c : Thread nD τ) none Set.univ (m := aM) (S := Finset.univ) (Finset.subset_univ _)) $$ Ha
  iintro Ha
  unfold slot
  iapply (wp_load 𝒱₀ (c : Thread nD τ) none Set.univ (m := gM) (S := (gS c).view.set) (own_sub c)) $$ Hg
  iintro Hg
  iapply (wp_store 𝒱₀ (c : Thread nD τ) none Set.univ (m := gM) (r := Rect.unit (s := S16384x256) (k0_off1 c) S512x256.size (k0_off1_inb c))
    (Mk := Finset.univ) (S := (gS c).view.set) (own_acc c)) $$ Hg
  iintro Hg
  rw [wp_ret, readAt_a, readAt_b, write_w]
  imodintro
  iapply Hk
  isplitl [Ha]; · iexact Ha
  isplitl [Hb]; · iexact Hb
  isplitl [Hw]; · unfold wPts wIn; iexact Hw
  iapply (Entails.of_eq (own_landed m c fg))
  iexact Hg

end Tiles

end Cert.KernelIdeal.Ring

end
-- ==== Proof.IdealHops.lean ====
/-
The hops: the state between them, the rule of a direction's part of a hop, and of the hops in a row.
-/
module

public import proofs.«01_k».proof.Proof.IdealTiles

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families indexed by a place -/

/-- A family whose members before place `n` are done and the others ahead: the one at place `n` taken out, and put back
    done. -/
theorem focus {I : Type} [Fintype I] [DecidableEq I] (p : I → ℕ) (hp : Function.Injective p) (A B : I → sProp 𝕄) (i : I) (n : ℕ) (hi : p i = n) :
    bigSep Finset.univ (fun x => if p x < n then B x else A x)
      ⊢ iprop(A i ∗ (B i -∗ bigSep Finset.univ (fun x => if p x < n + 1 then B x else A x))) := by
  rw [bigSep_erase (Finset.mem_univ i) (Φ := fun x => if p x < n then B x else A x),
    bigSep_erase (Finset.mem_univ i) (Φ := fun x => if p x < n + 1 then B x else A x),
    if_neg (by omega), if_pos (by omega)]
  have e : bigSep (Finset.univ.erase i) (fun x => if p x < n then B x else A x)
      = bigSep (Finset.univ.erase i) (fun x => if p x < n + 1 then B x else A x) := by
    refine bigSep_congr fun x hx => ?_
    have hne : p x ≠ n := fun h => (Finset.mem_erase.mp hx).1 (hp (h.trans hi.symm))
    by_cases h : p x < n
    · rw [if_pos h, if_pos (by omega)]
    · rw [if_neg h, if_neg (by omega)]
  rw [e]
  show iprop(A i ∗ bigSep (Finset.univ.erase i) (fun x => if p x < n + 1 then B x else A x))
    ⊢ iprop(A i ∗ (B i -∗ iprop(B i ∗ bigSep (Finset.univ.erase i) (fun x => if p x < n + 1 then B x else A x))))
  iintro ⟨HA, HR⟩
  isplitl [HA]; · iexact HA
  iintro HB
  isplitl [HB]; · iexact HB
  iexact HR

/-- Nothing done, and all done. -/
theorem none_done {I : Type} [Fintype I] (p : I → ℕ) (A B : I → sProp 𝕄) :
    bigSep Finset.univ (fun x => if p x < 0 then B x else A x) = bigSep Finset.univ A := bigSep_congr fun x _ => if_neg (by omega)
theorem all_done {I : Type} [Fintype I] (p : I → ℕ) (A B : I → sProp 𝕄) (n : ℕ) (h : ∀ x, p x < n) :
    bigSep Finset.univ (fun x => if p x < n then B x else A x) = bigSep Finset.univ B := bigSep_congr fun x _ => if_pos (h x)

/-! ## The state between the steps -/

section State
variable (c : Dev nD)

/-- The waits for hops: those before place `t` done, their cells at zero. -/
def Rv (t : ℕ) : sProp 𝕄 := bigSep Finset.univ fun x : Hop => if lev x < t then semVal (recvCell c x) 0 else RTodo c x
/-- The transfers: those before place `n` under way. -/
def Sd (n : ℕ) : sProp 𝕄 := bigSep Finset.univ fun x : Hop => if lev x < n then SFly c x else STodo c x
/-- Both, with what is still owed. -/
def RS (t n : ℕ) : sProp 𝕄 := iprop(Rv c t ∗ Sd c n ∗ ow c (owedFrom c n))
/-- The products: before place `t`, the share of the slot they read; after, the block of the result they will fill. -/
def Em (t : ℕ) : sProp 𝕄 :=
  iprop(wPts m c ∗ bigSep Finset.univ fun x : Hop => if lev x < t then slot c (got x c) fullShare.right (gath m) else iprop(∃ f, oP c (got x c) f))
/-- The blocks of the result copied out before place `t`. -/
def Dr (t : ℕ) : sProp 𝕄 := bigSep Finset.univ fun x : Hop => if lev x < t then oP c (got x c) (prodOf m c) else iprop(emp)

variable (κ : Dev nD × CI → ℕ)

/-- The halves of a slot. -/
theorem slot_halves (d : Dev nD) (f : Buf (Elt F) ((gS d).view.loc (c : Thread nD τ))) (q : PosShare TreeShare) :
    (slot c d q f : sProp 𝕄) ⊣⊢ iprop(slot c d q.left f ∗ slot c d q.right f) :=
  pointsTo_share (PosShare.mem_left_op_right q)

/-- Hop `y`'s transfer. -/
theorem fwdS (y : Hop) (n : ℕ) (hy : lev y = n) {Q : PUnit → sProp 𝕄} :
    iprop(Recs m κ ∗ slot c (src y c) (qS y) (gath m) ∗ Sd c n ∗ ow c (owedFrom c n))
      ⊢ iprop(((Sd c (n + 1) ∗ ow c (owedFrom c (n + 1))) -∗ Q ⟨⟩) -∗ wpC c (fwdX c y) Q) := by
  unfold Sd
  iintro ⟨HR, Hs, HS, HO⟩ Hk
  ihave HS := (focus lev lev_injective (fun x => STodo c x) (fun x => SFly c x) y n hy) $$ HS
  icases HS with ⟨Hy, Hc⟩
  iapply (step_fwd m κ c y n hy) $$ [HR Hs Hy HO]
  · isplitl [HR]; · iexact HR
    isplitl [Hs]; · iexact Hs
    isplitl [Hy]; · iexact Hy
    iexact HO
  iintro ⟨Hf, HO⟩
  iapply Hk
  isplitl [Hf Hc]
  · iapply Hc; iexact Hf
  iexact HO

/-- What hop `x` brings, the slot in halves. -/
theorem recvS (x : Hop) (t n : ℕ) (hx : lev x = t) (hn : t + 1 ≤ n) {Q : PUnit → sProp 𝕄} :
    iprop(Recs m κ ∗ RS c t n)
      ⊢ iprop(((RS c (t + 1) n ∗ slot c (got x c) fullShare.left (gath m) ∗ slot c (got x c) fullShare.right (gath m)) -∗ Q ⟨⟩)
          -∗ wpC c (awaitX c x) Q) := by
  unfold RS Rv
  iintro ⟨HR, ⟨Hv, HS, HO⟩⟩ Hk
  ihave Hv := (focus lev lev_injective (fun x => RTodo c x) (fun x => semVal (recvCell c x) 0) x t hx) $$ Hv
  icases Hv with ⟨Hx, Hc⟩
  iapply (step_await m κ c x n (by omega)) $$ [HR Hx HO]
  · isplitl [HR]; · iexact HR
    isplitl [Hx]; · iexact Hx
    iexact HO
  iintro ⟨Hz, Hs, HO⟩
  ihave Hs := (slot_halves c (got x c) (gath m) fullShare).1 $$ Hs
  iapply Hk
  isplitl [Hz Hc HS HO]
  · isplitl [Hz Hc]
    · iapply Hc; iexact Hz
    isplitl [HS]; · iexact HS
    iexact HO
  iexact Hs

/-- What hop `x` brings, passed on by hop `y`. -/
theorem recvFwd (x y : Hop) (t : ℕ) (hx : lev x = t) (hy : lev y = t + 2) (hs : src y c = got x c) (hq : qS y = fullShare.left) {Q : PUnit → sProp 𝕄} :
    iprop(Recs m κ ∗ RS c t (t + 2))
      ⊢ iprop(((RS c (t + 1) (t + 3) ∗ slot c (got x c) fullShare.right (gath m)) -∗ Q ⟨⟩)
          -∗ wpC c (awaitX c x) fun _ => wpC c (fwdX c y) Q) := by
  iintro ⟨#HR, H⟩ Hk
  iapply (recvS m c κ x t (t + 2) hx (by omega)) $$ [H]
  · isplitr; · iexact HR
    iexact H
  unfold RS
  iintro ⟨⟨Hv, HS, HO⟩, Hl, Hr⟩
  iapply (fwdS m c κ y (t + 2) hy) $$ [Hl HS HO]
  · isplitr; · iexact HR
    isplitl [Hl]
    · rw [hs, hq]; iexact Hl
    isplitl [HS]; · iexact HS
    iexact HO
  iintro ⟨HS, HO⟩
  iapply Hk
  isplitl [Hv HS HO]
  · isplitl [Hv]; · iexact Hv
    isplitl [HS]; · iexact HS
    iexact HO
  iexact Hr

/-- The product of what hop `x` brought, into tile `s`. -/
theorem emitS (x : Hop) (s : Fin 2) (t : ℕ) (hx : lev x = t) {Q : PUnit → sProp 𝕄} :
    iprop(Em m c t ∗ slot c (got x c) fullShare.right (gath m) ∗ TFree c s)
      ⊢ iprop(((Em m c (t + 1) ∗ OutFly m c s (got x c)) -∗ Q ⟨⟩) -∗ wpC c (emitX s (got x c)) Q) := by
  unfold Em
  iintro ⟨⟨Hw, He⟩, Hs, Ht⟩ Hk
  ihave He := (focus lev lev_injective (fun x => iprop(∃ f, oP c (got x c) f)) (fun x => slot c (got x c) fullShare.right (gath m)) x t hx) $$ He
  icases He with ⟨Ho, Hc⟩
  iapply (step_emit m c s (got x c) fullShare.right) $$ [Hw Hs Ht Ho]
  · isplitl [Hs]; · iexact Hs
    isplitl [Hw]; · iexact Hw
    isplitl [Ht]; · iexact Ht
    iexact Ho
  iintro ⟨Hs, Hw, Hf⟩
  iapply Hk
  isplitl [Hs Hw Hc]
  · isplitl [Hw]; · iexact Hw
    iapply Hc; iexact Hs
  iexact Hf

/-- The wait for the copy-out of what hop `x` brought. -/
theorem drainO (x : Hop) (s : Fin 2) (t n : ℕ) (hx : lev x = t) {Q : PUnit → sProp 𝕄} :
    iprop(Recs m κ ∗ ow c (owedFrom c n) ∗ Dr m c t ∗ OutFly m c s (got x c))
      ⊢ iprop(((ow c (owedFrom c n) ∗ Dr m c (t + 1) ∗ TFree c s) -∗ Q ⟨⟩) -∗ wpC c (drainX s (got x c)) Q) := by
  unfold Dr
  iintro ⟨HR, HO, Hd, Hf⟩ Hk
  ihave Hd := (focus lev lev_injective (fun x => iprop(emp)) (fun x => oP c (got x c) (prodOf m c)) x t hx) $$ Hd
  icases Hd with ⟨-, Hc⟩
  iapply (step_drain m c κ s (got x c) n) $$ [HR Hf HO]
  · isplitl [HR]; · iexact HR
    isplitl [Hf]; · iexact Hf
    iexact HO
  iintro ⟨Ho, Ht, HO⟩
  iapply Hk
  isplitl [HO]; · iexact HO
  isplitl [Ho Hc]
  · iapply Hc; iexact Ho
  iexact Ht
theorem drainS (x : Hop) (s : Fin 2) (t a n : ℕ) (hx : lev x = t) {Q : PUnit → sProp 𝕄} :
    iprop(Recs m κ ∗ RS c a n ∗ Dr m c t ∗ OutFly m c s (got x c))
      ⊢ iprop(((RS c a n ∗ Dr m c (t + 1) ∗ TFree c s) -∗ Q ⟨⟩) -∗ wpC c (drainX s (got x c)) Q) := by
  unfold RS
  iintro ⟨HR, ⟨Hv, HS, HO⟩, Hd, Hf⟩ Hk
  iapply (drainO m c κ x s t n hx) $$ [HR HO Hd Hf]
  · isplitl [HR]; · iexact HR
    isplitl [HO]; · iexact HO
    isplitl [Hd]; · iexact Hd
    iexact Hf
  iintro ⟨HO, H⟩
  iapply Hk
  isplitl [Hv HS HO]
  · isplitl [Hv]; · iexact Hv
    isplitl [HS]; · iexact HS
    iexact HO
  iexact H

/-! ## The hops -/

/-- A direction's part of a hop: receive `x`, pass it on by `y`, wait for the copy-out of `p`, multiply. -/
theorem half (x y p : Hop) (s : Fin 2) (t d : ℕ) (hx : lev x = t) (hy : lev y = t + 2) (hp : lev p = d) (hs : src y c = got x c)
    (hq : qS y = fullShare.left) {Q : PUnit → sProp 𝕄} :
    iprop(Recs m κ ∗ RS c t (t + 2) ∗ Em m c t ∗ Dr m c d ∗ OutFly m c s (got p c))
      ⊢ iprop(((RS c (t + 1) (t + 3) ∗ Em m c (t + 1) ∗ Dr m c (d + 1) ∗ OutFly m c s (got x c)) -∗ Q ⟨⟩)
          -∗ wpC c (awaitX c x) fun _ => wpC c (fwdX c y) fun _ => wpC c (drainX s (got p c)) fun _ => wpC c (emitX s (got x c)) Q) := by
  iintro ⟨#HR, H, He, Hd, Hf⟩ Hk
  iapply (recvFwd m c κ x y t hx hy hs hq) $$ [H]
  · isplitr; · iexact HR
    iexact H
  iintro ⟨H, Hs⟩
  iapply (drainS m c κ p s d (t + 1) (t + 3) hp) $$ [H Hd Hf]
  · isplitr; · iexact HR
    isplitl [H]; · iexact H
    isplitl [Hd]; · iexact Hd
    iexact Hf
  iintro ⟨H, Hd, Ht⟩
  iapply (emitS m c x s t hx) $$ [He Hs Ht]
  · isplitl [He]; · iexact He
    isplitl [Hs]; · iexact Hs
    iexact Ht
  iintro ⟨He, Hf⟩
  iapply Hk
  isplitl [H]; · iexact H
  isplitl [He]; · iexact He
  isplitl [Hd]; · iexact Hd
  iexact Hf

/-- A direction's part of a hop that passes nothing on: the half of the slot it would have lent is left over. -/
theorem halfLast (x p : Hop) (s : Fin 2) (t d n : ℕ) (hx : lev x = t) (hn : t + 1 ≤ n) (hp : lev p = d) {Q : PUnit → sProp 𝕄} :
    iprop(Recs m κ ∗ RS c t n ∗ Em m c t ∗ Dr m c d ∗ OutFly m c s (got p c))
      ⊢ iprop(((RS c (t + 1) n ∗ Em m c (t + 1) ∗ Dr m c (d + 1) ∗ OutFly m c s (got x c) ∗ slot c (got x c) fullShare.left (gath m)) -∗ Q ⟨⟩)
          -∗ wpC c (awaitX c x) fun _ => wpC c (drainX s (got p c)) fun _ => wpC c (emitX s (got x c)) Q) := by
  iintro ⟨#HR, H, He, Hd, Hf⟩ Hk
  iapply (recvS m c κ x t n hx hn) $$ [H]
  · isplitr; · iexact HR
    iexact H
  iintro ⟨H, Hl, Hs⟩
  iapply (drainS m c κ p s d (t + 1) n hp) $$ [H Hd Hf]
  · isplitr; · iexact HR
    isplitl [H]; · iexact H
    isplitl [Hd]; · iexact Hd
    iexact Hf
  iintro ⟨H, Hd, Ht⟩
  iapply (emitS m c x s t hx) $$ [He Hs Ht]
  · isplitl [He]; · iexact He
    isplitl [Hs]; · iexact Hs
    iexact Ht
  iintro ⟨He, Hf⟩
  iapply Hk
  isplitl [H]; · iexact H
  isplitl [He]; · iexact He
  isplitl [Hd]; · iexact Hd
  isplitl [Hf]; · iexact Hf
  iexact Hl

/-- The state after `n + 1` hops, for `n` up to 13. -/
def After (n : ℕ) (hn : n ≤ 13) : sProp 𝕄 :=
  iprop(RS c (2 * n + 2) (2 * n + 4) ∗ Em m c (2 * n + 2) ∗ Dr m c (2 * n) ∗ OutFly m c 1 (got (.inl ⟨n, by omega⟩) c)
    ∗ OutFly m c 0 (got (.inr ⟨n, by omega⟩) c))

theorem qS_inl (h : Fin 16) : qS (.inl h) = fullShare.left := if_neg (by intro h; cases h)
theorem qS_inr_succ (h : ℕ) (hh : h + 1 < 15) : qS (.inr ⟨h + 1, hh⟩) = fullShare.left :=
  if_neg fun e => absurd (congrArg Fin.val (Sum.inr.inj e)) (Nat.succ_ne_zero h)

/-- One of the hops in the middle. -/
theorem hopMid_sound (i : ℕ) (hi : i < 13) {Q : PUnit → sProp 𝕄} :
    iprop(Recs m κ ∗ After m c i (by omega)) ⊢ iprop((After m c (i + 1) (by omega) -∗ Q ⟨⟩) -∗ wpC c (hopMid c i hi) Q) := by
  unfold hopMid After
  simp only [wp_bind, awaitR_eq, fwdR_eq, drainR_eq, emitR_eq, awaitL_eq, fwdL_eq, drainL_eq, emitL_eq]
  have a₁ : i + 1 + 1 < 16 := by omega
  have a₂ : i + 1 + 1 < 15 := by omega
  have e₁ : 2 * (i + 1) = 2 * i + 2 := by omega
  have e₂ : 2 * (i + 2) = 2 * i + 2 + 2 := by omega
  have e₃ : 2 * (i + 1) + 1 = 2 * i + 3 := by omega
  have e₄ : 2 * (i + 2) + 1 = 2 * i + 3 + 2 := by omega
  iintro ⟨#HR, H, He, Hd, Hf₁, Hf₀⟩ Hk
  iapply (half m c κ (.inl ⟨i + 1, Nat.lt_of_succ_lt a₁⟩) (.inl ⟨i + 2, a₁⟩) (.inl ⟨i, Nat.lt_of_succ_lt (Nat.lt_of_succ_lt a₁)⟩) 1 (2 * i + 2) (2 * i) e₁
    e₂ rfl (src_inl_succ c (i + 1) a₁) (qS_inl _)) $$ [H He Hd Hf₁]
  · isplitr; · iexact HR
    isplitl [H]; · iexact H
    isplitl [He]; · iexact He
    isplitl [Hd]; · iexact Hd
    iexact Hf₁
  iintro ⟨H, He, Hd, Hf₁⟩
  iapply (half m c κ (.inr ⟨i + 1, Nat.lt_of_succ_lt a₂⟩) (.inr ⟨i + 2, a₂⟩) (.inr ⟨i, Nat.lt_of_succ_lt (Nat.lt_of_succ_lt a₂)⟩) 0 (2 * i + 3) (2 * i + 1) e₃
    e₄ rfl (src_inr_succ c (i + 1) a₂) (qS_inr_succ _ _)) $$ [H He Hd Hf₀]
  · isplitr; · iexact HR
    isplitl [H]; · iexact H
    isplitl [He]; · iexact He
    isplitl [Hd]; · iexact Hd
    iexact Hf₀
  iintro ⟨H, He, Hd, Hf₀⟩
  iapply Hk
  isplitl [H]; · iexact H
  isplitl [He]; · iexact He
  isplitl [Hd]; · iexact Hd
  isplitl [Hf₁]; · iexact Hf₁
  iexact Hf₀

/-- The hops in the middle. -/
theorem hopsMid_sound (n : ℕ) (hn : n ≤ 13) {Q : PUnit → sProp 𝕄} :
    iprop(Recs m κ ∗ After m c 0 (by omega)) ⊢ iprop((After m c n hn -∗ Q ⟨⟩) -∗ wpC c (hopsMid c n hn) Q) := by
  induction n generalizing Q with
  | zero =>
    iintro ⟨-, H⟩ Hk
    unfold hopsMid
    simp only [Prog.pure_eq_ret, wp_ret]
    imodintro
    iapply Hk
    iexact H
  | succ n ih =>
    unfold hopsMid
    simp only [wp_bind]
    iintro ⟨#HR, H⟩ Hk
    iapply (ih (Nat.le_of_succ_le hn)) $$ [H]
    · isplitr; · iexact HR
      iexact H
    iintro H
    iapply (hopMid_sound m c κ n hn) $$ [H]
    · isplitr; · iexact HR
      iexact H
    iexact Hk

/-- The first hop: tile 1 is free, tile 0's copy-out is that of the device's own block. -/
theorem hopFirst_sound {Q : PUnit → sProp 𝕄} :
    iprop(Recs m κ ∗ RS c 0 2 ∗ Em m c 0 ∗ TFree c 1 ∗ OutFly m c 0 c ∗ Dr m c 0)
      ⊢ iprop(((After m c 0 (by omega) ∗ oP c c (prodOf m c)) -∗ Q ⟨⟩) -∗ wpC c (hopFirst c) Q) := by
  unfold hopFirst After
  simp only [wp_bind, awaitR_eq, fwdR_eq, emitR_eq, awaitL_eq, fwdL_eq, drainOwn_eq, emitL_eq]
  iintro ⟨#HR, H, He, Ht, Hf₀, Hd⟩ Hk
  iapply (recvFwd m c κ (.inl 0) (.inl 1) 0 rfl rfl (src_inl_succ c 0 (by omega)) (qS_inl _)) $$ [H]
  · isplitr; · iexact HR
    iexact H
  iintro ⟨H, Hs⟩
  iapply (emitS m c (.inl 0) 1 0 rfl) $$ [He Hs Ht]
  · isplitl [He]; · iexact He
    isplitl [Hs]; · iexact Hs
    iexact Ht
  iintro ⟨He, Hf₁⟩
  iapply (recvFwd m c κ (.inr 0) (.inr 1) 1 rfl rfl (src_inr_succ c 0 (by omega)) (qS_inr_succ 0 (by omega))) $$ [H]
  · isplitr; · iexact HR
    iexact H
  iintro ⟨H, Hs⟩
  unfold RS
  icases H with ⟨Hv, HS, HO⟩
  iapply (step_drain m c κ 0 c 4) $$ [Hf₀ HO]
  · isplitr; · iexact HR
    isplitl [Hf₀]; · iexact Hf₀
    iexact HO
  iintro ⟨Ho, Ht, HO⟩
  iapply (emitS m c (.inr 0) 0 1 rfl) $$ [He Hs Ht]
  · isplitl [He]; · iexact He
    isplitl [Hs]; · iexact Hs
    iexact Ht
  iintro ⟨He, Hf₀⟩
  iapply Hk
  isplitl [Hv HS HO He Hd Hf₁ Hf₀]
  · isplitl [Hv HS HO]
    · isplitl [Hv]; · iexact Hv
      isplitl [HS]; · iexact HS
      iexact HO
    isplitl [He]; · iexact He
    isplitl [Hd]; · iexact Hd
    isplitl [Hf₁]; · iexact Hf₁
    iexact Hf₀
  iexact Ho

/-- The last two hops: the left direction passes nothing on at the one, nor does the right at the other. -/
theorem hopLast_sound {Q : PUnit → sProp 𝕄} :
    iprop(Recs m κ ∗ After m c 13 (le_refl _))
      ⊢ iprop(((RS c 31 31 ∗ Em m c 31 ∗ Dr m c 29 ∗ OutFly m c 1 (got (.inl 15) c) ∗ OutFly m c 0 (got (.inr 14) c)
          ∗ slot c (got (.inl 15) c) fullShare.left (gath m) ∗ slot c (got (.inr 14) c) fullShare.left (gath m)) -∗ Q ⟨⟩)
          -∗ wpC c (hopLast c) Q) := by
  unfold hopLast After
  simp only [wp_bind, awaitR_eq, fwdR_eq, drainR_eq, emitR_eq, awaitL_eq, drainL_eq, emitL_eq]
  iintro ⟨#HR, H, He, Hd, Hf₁, Hf₀⟩ Hk
  iapply (half m c κ (.inl 14) (.inl 15) (.inl 13) 1 28 26 rfl rfl rfl (src_inl_succ c 14 (by omega)) (qS_inl _)) $$ [H He Hd Hf₁]
  · isplitr; · iexact HR
    isplitl [H]; · iexact H
    isplitl [He]; · iexact He
    isplitl [Hd]; · iexact Hd
    iexact Hf₁
  iintro ⟨H, He, Hd, Hf₁⟩
  iapply (halfLast m c κ (.inr 14) (.inr 13) 0 29 27 31 rfl (by omega) rfl) $$ [H He Hd Hf₀]
  · isplitr; · iexact HR
    isplitl [H]; · iexact H
    isplitl [He]; · iexact He
    isplitl [Hd]; · iexact Hd
    iexact Hf₀
  iintro ⟨H, He, Hd, Hf₀, Hl₀⟩
  iapply (halfLast m c κ (.inl 15) (.inl 14) 1 30 28 31 rfl (by omega) rfl) $$ [H He Hd Hf₁]
  · isplitr; · iexact HR
    isplitl [H]; · iexact H
    isplitl [He]; · iexact He
    isplitl [Hd]; · iexact Hd
    iexact Hf₁
  iintro ⟨H, He, Hd, Hf₁, Hl₁⟩
  iapply Hk
  isplitl [H]; · iexact H
  isplitl [He]; · iexact He
  isplitl [Hd]; · iexact Hd
  isplitl [Hf₁]; · iexact Hf₁
  isplitl [Hf₀]; · iexact Hf₀
  isplitl [Hl₁]; · iexact Hl₁
  iexact Hl₀

end State

end Cert.KernelIdeal.Ring

end
-- ==== Proof.IdealBody.lean ====
/-
The body: the handshake, the waits for the transfers to have left, and the whole from the buffers it finds to the buffers it
leaves.
-/
module

public import proofs.«01_k».proof.Proof.IdealHops

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Body
variable (κ : Dev nD × CI → ℕ) (c : Dev nD)

/-! ## The handshake -/

/-- What device `c` needs to greet its neighbours: their barriers' duties, its place in its own and the credit promised. -/
def Greet : sProp 𝕄 :=
  iprop(dutyTok ER (barCell (prv c)) 0 true ∗ dutyTok ER (barCell (nxt c)) 0 false ∗ atPos ER (barCell c) 0 ∅ 0 ∗ cred (tallyAt (barCell c) () 2))

theorem mayWait_bar : (levAts L lv : sProp 𝕄) ⊢ MayWait (c : Thread nD τ) (.reg barS) () (owedFrom c 0) :=
  mayWait_from c (.reg barS) 0 (le_of_eq (lv_bar c))

/-- A family over the hops is one over the right's and one over the left's. -/
theorem bigSep_hops (Φ : Hop → sProp 𝕄) :
    bigSep Finset.univ Φ = iprop((bigSep Finset.univ fun h : Fin 16 => Φ (.inl h)) ∗ bigSep Finset.univ fun h : Fin 15 => Φ (.inr h)) :=
  bigSep_univ_sum Φ

/-- The handshake: the slots the neighbours' transfers write handed over, those that this device's write received. -/
theorem step_greet {Q : PUnit → sProp 𝕄} :
    iprop(Recs m κ ∗ Greet c ∗ (bigSep Finset.univ fun x : Hop => land c x) ∗ ow c (O₀ c))
      ⊢ iprop(((semVal (barCell c) 0 ∗ (bigSep Finset.univ fun x : Hop => land (peer x c) x) ∗ ow c (owedFrom c 0)) -∗ Q ⟨⟩)
          -∗ wpC c (greet c) Q) := by
  unfold greet Greet ow
  rw [bigSep_hops, bigSep_hops, dev1_eq, dev2_eq]
  simp only [semSignalWord, semWaitWord, Prog.lift, Prog.bind_op, Prog.bind_ret, Prog.pure_eq_ret]
  iintro ⟨#HR, ⟨Ht₁, Ht₂, Hat, Hc⟩, ⟨Hl₁, Hl₂⟩, ⟨%W, HO⟩⟩ Hk
  iapply (Rounds.wp_signal 𝒱₀ ER (ringRd m) (c : Thread nD τ) none (dst := (prv c : Thread nD τ)) (κ := κ (prv c, none))
      (d := true) (by rw [duties_bar]; exact Finset.mem_univ _) ((amount_bar m (prv c) true).trans (by decide)) () (O₁ c) rfl)
    $$ [HO Ht₁ Hl₁]
  · isplitr; · iapply (Recs_inv m κ (prv c, none)); iexact HR
    isplitl [HO]; · iexact HO
    isplitl [Ht₁]; · iexact Ht₁
    isplitl [Hl₁]
    · rw [payload_bar]; unfold barPay; rw [if_pos rfl, nxt_prv]; iexact Hl₁
    iapply (Recs_reached m κ (prv c, none)); iexact HR
  iintro HO
  iapply (Rounds.wp_signal 𝒱₀ ER (ringRd m) (c : Thread nD τ) none (dst := (nxt c : Thread nD τ)) (κ := κ (nxt c, none))
      (d := false) (by rw [duties_bar]; exact Finset.mem_univ _) ((amount_bar m (nxt c) false).trans (by decide)) () (owedFrom c 0) rfl)
    $$ [HO Ht₂ Hl₂]
  · isplitr; · iapply (Recs_inv m κ (nxt c, none)); iexact HR
    isplitl [HO]; · iexact HO
    isplitl [Ht₂]; · iexact Ht₂
    isplitl [Hl₂]
    · rw [payload_bar]; unfold barPay; rw [if_neg Bool.false_ne_true, prv_nxt]; iexact Hl₂
    iapply (Recs_reached m κ (nxt c, none)); iexact HR
  iintro HO
  iapply (Rounds.wp_wait_rest_token 𝒱₀ ER (ringRd m) (c : Thread nD τ) none (κ := κ (c, none))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (Recs_inv m κ (c, none)); iexact HR
    isplitl [Hc]; · iexact Hc
    isplitl [HO]; · iexact HO
    isplitr; · iapply (mayWait_bar c); iapply (Recs_lev m κ); iexact HR
    iexact Hat
  iintro ⟨HO, Hat, -, Hpay⟩
  ihave Hp := (Entails.of_eq (rest_bar m c)) $$ Hpay
  imod (Rounds.cell_close ER (ringRd m) (κ := κ (c, none)) (Set.mem_univ _) id (R := 0 + 1) (duties_later m _)) $$ [Hat] with Hv
  · isplitr; · iapply (Recs_inv m κ (c, none)); iexact HR
    iexact Hat
  rw [wp_ret]
  imodintro
  iapply Hk
  isplitl [Hv]; · iexact Hv
  isplitl [Hp]; · iexact Hp
  iexists _
  iexact HO

/-! ## The transfers' ends -/

/-- The order in which the body waits for its transfers to have left. -/
def sentNo : Hop → ℕ
  | .inl h => h.val
  | .inr h => 16 + h.val
theorem sentNo_injective : Function.Injective sentNo := by
  rintro (a | a) (b | b) e <;> have ha := a.isLt <;> have hb := b.isLt <;> simp only [sentNo] at e
  · exact congrArg _ (Fin.ext e)
  · omega
  · omega
  · exact congrArg _ (Fin.ext (by omega))
theorem sentNo_lt (x : Hop) : sentNo x < 31 := by
  rcases x with h | h <;> have := h.isLt <;> simp only [sentNo] <;> omega

/-- A transfer that has left: its cell at zero and the share of the slot it read. -/
def SBack (x : Hop) : sProp 𝕄 := iprop(semVal (sendCell c x) 0 ∗ slot c (src x c) (qS x) (gath m))
def Sent (n : ℕ) : sProp 𝕄 := iprop((bigSep Finset.univ fun x : Hop => if sentNo x < n then SBack m c x else SFly c x) ∗ ow c (owedFrom c 31))

theorem sentS (x : Hop) (n : ℕ) (hx : sentNo x = n) {Q : PUnit → sProp 𝕄} :
    iprop(Recs m κ ∗ Sent m c n) ⊢ iprop((Sent m c (n + 1) -∗ Q ⟨⟩) -∗ wpC c (sentX c x) Q) := by
  unfold Sent
  iintro ⟨HR, Hs, HO⟩ Hk
  ihave Hs := (focus sentNo sentNo_injective (fun x => SFly c x) (fun x => SBack m c x) x n hx) $$ Hs
  icases Hs with ⟨Hx, Hc⟩
  iapply (step_sent m κ c x 31) $$ [HR Hx HO]
  · isplitl [HR]; · iexact HR
    isplitl [Hx]; · iexact Hx
    iexact HO
  iintro ⟨Hz, Hs, HO⟩
  iapply Hk
  isplitl [Hz Hs Hc]
  · iapply Hc
    unfold SBack
    isplitl [Hz]; · iexact Hz
    iexact Hs
  iexact HO

theorem allSentR_sound (n : ℕ) (hn : n ≤ 16) {Q : PUnit → sProp 𝕄} :
    iprop(Recs m κ ∗ Sent m c 0) ⊢ iprop((Sent m c n -∗ Q ⟨⟩) -∗ wpC c (allSentR c n hn) Q) := by
  induction n generalizing Q with
  | zero =>
    iintro ⟨-, H⟩ Hk
    unfold allSentR
    simp only [Prog.pure_eq_ret, wp_ret]
    imodintro
    iapply Hk
    iexact H
  | succ n ih =>
    unfold allSentR
    simp only [wp_bind, sentR_eq]
    iintro ⟨#HR, H⟩ Hk
    iapply (ih (Nat.le_of_succ_le hn)) $$ [H]
    · isplitr; · iexact HR
      iexact H
    iintro H
    iapply (sentS m κ c (.inl ⟨n, hn⟩) n rfl) $$ [H]
    · isplitr; · iexact HR
      iexact H
    iexact Hk

theorem allSentL_sound (n : ℕ) (hn : n ≤ 15) {Q : PUnit → sProp 𝕄} :
    iprop(Recs m κ ∗ Sent m c 16) ⊢ iprop((Sent m c (16 + n) -∗ Q ⟨⟩) -∗ wpC c (allSentL c n hn) Q) := by
  induction n generalizing Q with
  | zero =>
    iintro ⟨-, H⟩ Hk
    unfold allSentL
    simp only [Prog.pure_eq_ret, wp_ret]
    imodintro
    iapply Hk
    iexact H
  | succ n ih =>
    unfold allSentL
    simp only [wp_bind, sentL_eq]
    iintro ⟨#HR, H⟩ Hk
    iapply (ih (Nat.le_of_succ_le hn)) $$ [H]
    · isplitr; · iexact HR
      iexact H
    iintro H
    iapply (sentS m κ c (.inr ⟨n, hn⟩) (16 + n) rfl) $$ [H]
    · isplitr; · iexact HR
      iexact H
    iexact Hk

/-! ## The buffers whole, and in pieces -/

/-- The last member of a family taken out. -/
theorem bigSep_last {n : ℕ} (Φ : Fin (n + 1) → sProp 𝕄) :
    bigSep Finset.univ Φ = iprop((bigSep Finset.univ fun i : Fin n => Φ i.castSucc) ∗ Φ (Fin.last n)) := by
  rw [bigSep_univ_equiv (finSumFinEquiv (m := n) (n := 1)), bigSep_univ_sum, bigSep_univ_of_subsingleton (0 : Fin 1)]; rfl
/-- The first member of a family taken out. -/
theorem bigSep_first {n : ℕ} (Φ : Fin (n + 1) → sProp 𝕄) :
    bigSep Finset.univ Φ = iprop((bigSep Finset.univ fun i : Fin n => Φ i.succ) ∗ Φ 0) := by
  rw [bigSep_univ_equiv ((Equiv.optionEquivSumPUnit.{0} (Fin n)).symm.trans (finSuccEquiv n).symm), bigSep_univ_sum,
    bigSep_univ_of_subsingleton PUnit.unit]
  rfl

/-- The gathered `A` whole is its slots: the own one's and the received ones'. -/
theorem gath_slots (f : Buf (Elt F) (gM.view.loc (c : Thread nD τ))) :
    ((gM.view.loc (c : Thread nD τ)) ↦{fullShare} f : sProp 𝕄) = iprop(slot c c fullShare f ∗ bigSep Finset.univ fun x : Hop => slot c (got x c) fullShare f) := by
  have h := pointsTo_biUnion (Ix := Unit) (Name := ℕ) (U := UU) (Lvl := ℕ) (ℓ := gM.view.loc (c : Thread nD τ)) (q := fullShare) (f := f)
    (Finset.univ : Finset (Dev nD)) (fun d => (gS d).view.set) gS_disjoint
  have e : Finset.biUnion (β := Idx (gM.view.loc (c : Thread nD τ))) (Finset.univ : Finset (Dev nD)) (fun d => (gS d).view.set) = Finset.univ := gS_cover
  rw [e] at h
  exact h.trans (bigSep_blocks c _)

/-- The result whole is its blocks. -/
theorem out_blocks (f : Buf (Elt F) (oM.view.loc (c : Thread nD τ))) :
    ((oM.view.loc (c : Thread nD τ)) ↦{fullShare} f : sProp 𝕄) = iprop(oP c c f ∗ bigSep Finset.univ fun x : Hop => oP c (got x c) f) := by
  have h := pointsTo_biUnion (Ix := Unit) (Name := ℕ) (U := UU) (Lvl := ℕ) (ℓ := oM.view.loc (c : Thread nD τ)) (q := fullShare) (f := f)
    (Finset.univ : Finset (Dev nD)) (fun d => (oS d).view.set) oS_disjoint
  have e : Finset.biUnion (β := Idx (oM.view.loc (c : Thread nD τ))) (Finset.univ : Finset (Dev nD)) (fun d => (oS d).view.set) = Finset.univ := oS_cover
  rw [e] at h
  exact h.trans (bigSep_blocks c _)

/-- The two result tiles' buffer is the two tiles. -/
theorem tiles_split (f : Buf (Elt F) (tM.view.loc (c : Thread nD τ))) :
    ((tM.view.loc (c : Thread nD τ)) ↦{fullShare} f : sProp 𝕄) ⊢ iprop(tileP c 0 f ∗ tileP c 1 f) := by
  have h := (pointsTo_union (Ix := Unit) (Name := ℕ) (U := UU) (Lvl := ℕ) (ℓ := tM.view.loc (c : Thread nD τ)) (q := fullShare) (f := f) tAt_disjoint).1
  have e : ((tAt 0).view.set ∪ (tAt 1).view.set : Finset (Idx (tM.view.loc (c : Thread nD τ)))) = Finset.univ := tAt_cover
  rw [e] at h
  exact h
theorem tiles_join (f g : Buf (Elt F) (tM.view.loc (c : Thread nD τ))) :
    iprop(tileP c 0 f ∗ tileP c 1 g) ⊢ (iprop(∃ h, (tM.view.loc (c : Thread nD τ)) ↦{fullShare} h) : sProp 𝕄) := by
  have h := pointsTo_join (Ix := Unit) (Name := ℕ) (U := UU) (Lvl := ℕ) (ℓ := tM.view.loc (c : Thread nD τ)) (q := fullShare) (f := f) (g := g) tAt_disjoint
  have e : ((tAt 0).view.set ∪ (tAt 1).view.set : Finset (Idx (tM.view.loc (c : Thread nD τ)))) = Finset.univ := tAt_cover
  rw [e] at h
  iintro H
  iexists _
  iapply h
  iexact H

/-- What the transfers read and what the last receipts left over: two parts of the own slot and a half of every received one. -/
theorem lent_back :
    iprop((bigSep Finset.univ fun x : Hop => slot c (src x c) (qS x) (gath m))
        ∗ slot c (got (.inl 15) c) fullShare.left (gath m) ∗ slot c (got (.inr 14) c) fullShare.left (gath m))
      ⊢ (iprop((slot c c fullShare.left (gath m) ∗ slot c c fullShare.right.left (gath m))
          ∗ bigSep Finset.univ fun x : Hop => slot c (got x c) fullShare.left (gath m)) : sProp 𝕄) := by
  rw [bigSep_hops, bigSep_hops (fun x : Hop => slot c (got x c) fullShare.left (gath m))]
  have e₁ : bigSep Finset.univ (fun h : Fin 16 => slot c (src (.inl h) c) (qS (.inl h)) (gath m))
      = (iprop((bigSep Finset.univ fun i : Fin 15 => slot c (got (.inl i.castSucc) c) fullShare.left (gath m)) ∗ slot c c fullShare.left (gath m)) : sProp 𝕄) := by
    refine (bigSep_first (n := 15) _).trans (congrArg₂ (fun P R : sProp 𝕄 => iprop(P ∗ R)) (bigSep_congr fun i _ => ?_) ?_)
    · rw [qS_inl]
      exact congrArg (fun d => slot c d fullShare.left (gath m)) (src_inl_succ c i.val i.succ.isLt)
    · rw [qS_inl, src_inl_zero]
  have e₂ : bigSep Finset.univ (fun h : Fin 15 => slot c (src (.inr h) c) (qS (.inr h)) (gath m))
      = (iprop((bigSep Finset.univ fun i : Fin 14 => slot c (got (.inr i.castSucc) c) fullShare.left (gath m)) ∗ slot c c fullShare.right.left (gath m)) : sProp 𝕄) := by
    refine (bigSep_first (n := 14) _).trans (congrArg₂ (fun P R : sProp 𝕄 => iprop(P ∗ R)) (bigSep_congr fun i _ => ?_) ?_)
    · exact (congrArg (fun q => slot c (src (.inr i.succ) c) q (gath m)) (qS_inr_succ i.val i.succ.isLt)).trans
        (congrArg (fun d => slot c d fullShare.left (gath m)) (src_inr_succ c i.val i.succ.isLt))
    · rw [src_inr_zero]; exact congrArg (fun q => slot c c q (gath m)) (if_pos rfl)
  rw [e₁, e₂, bigSep_last (n := 15) (fun h => slot c (got (.inl h) c) fullShare.left (gath m)),
    bigSep_last (n := 14) (fun h => slot c (got (.inr h) c) fullShare.left (gath m))]
  iintro ⟨⟨⟨Ha, Ho₁⟩, Hb, Ho₂⟩, Hl₁, Hl₂⟩
  isplitl [Ho₁ Ho₂]
  · isplitl [Ho₁]; · iexact Ho₁
    iexact Ho₂
  isplitl [Ha Hl₁]
  · isplitl [Ha]; · iexact Ha
    iexact Hl₁
  isplitl [Hb]; · iexact Hb
  iexact Hl₂

/-- The slots whole again. -/
theorem slots_join :
    iprop((bigSep Finset.univ fun x : Hop => slot c (got x c) fullShare.left (gath m)) ∗ bigSep Finset.univ fun x : Hop => slot c (got x c) fullShare.right (gath m))
      ⊢ (bigSep Finset.univ fun x : Hop => slot c (got x c) fullShare (gath m) : sProp 𝕄) := by
  have h : (bigSep Finset.univ fun x : Hop => iprop(slot c (got x c) fullShare.left (gath m) ∗ slot c (got x c) fullShare.right (gath m)))
      ⊢ (bigSep Finset.univ fun x : Hop => slot c (got x c) fullShare (gath m) : sProp 𝕄) :=
    bigSep_mono fun x _ => (slot_halves c (got x c) (gath m) fullShare).2
  rw [show (bigSep Finset.univ fun x : Hop => iprop(slot c (got x c) fullShare.left (gath m) ∗ slot c (got x c) fullShare.right (gath m)))
      = (iprop((bigSep Finset.univ fun x : Hop => slot c (got x c) fullShare.left (gath m)) ∗ bigSep Finset.univ fun x : Hop => slot c (got x c) fullShare.right (gath m)) : sProp 𝕄)
      from bigSep_sep _ _ _] at h
  exact h

/-! ## The body -/

/-- The staged operands. -/
def Ops : sProp 𝕄 := iprop((aM.view.loc (c : Thread nD τ) ↦{fullShare} aIn m c) ∗ (bM.view.loc (c : Thread nD τ) ↦{fullShare} bIn m c))
/-- The scratch buffers and the result, at whatever they hold. -/
def Bufs : sProp 𝕄 :=
  iprop((∃ f, gM.view.loc (c : Thread nD τ) ↦{fullShare} f) ∗ (∃ f, wM.view.loc (c : Thread nD τ) ↦{fullShare} f)
    ∗ (∃ f, tM.view.loc (c : Thread nD τ) ↦{fullShare} f))
/-- What device `c` holds of the ring at the start. -/
def Linear : sProp 𝕄 :=
  iprop(Greet c ∗ (bigSep Finset.univ fun x : Hop => STok c x) ∗ (bigSep Finset.univ fun x : Hop => RTodo c x))
def Copies : sProp 𝕄 := iprop(semVal (copyCell c 0) 0 ∗ semVal (copyCell c 1) 0)
/-- All its cells at zero. -/
def Zeros : sProp 𝕄 :=
  iprop(semVal (barCell c) 0 ∗ (bigSep Finset.univ fun x : Hop => semVal (sendCell c x) 0) ∗ (bigSep Finset.univ fun x : Hop => semVal (recvCell c x) 0)
    ∗ Copies c)

theorem lands_any (f : Buf (Elt F) (gM.view.loc (c : Thread nD τ))) :
    (bigSep Finset.univ fun x : Hop => slot c (got x c) fullShare f) ⊢ (bigSep Finset.univ fun x : Hop => land c x : sProp 𝕄) :=
  bigSep_mono fun x _ => by
    show slot c (got x c) fullShare f ⊢ (land c x : sProp 𝕄)
    unfold land; iintro H; iexists f; iexact H
theorem outs_any (f : Buf (Elt F) (oM.view.loc (c : Thread nD τ))) :
    (bigSep Finset.univ fun x : Hop => oP c (got x c) f) ⊢ (bigSep Finset.univ fun x : Hop => iprop(∃ f, oP c (got x c) f) : sProp 𝕄) :=
  bigSep_mono fun x _ => by
    show oP c (got x c) f ⊢ (iprop(∃ f, oP c (got x c) f) : sProp 𝕄)
    iintro H; iexists f; iexact H
theorem transfers_start :
    iprop((bigSep Finset.univ fun x : Hop => STok c x) ∗ bigSep Finset.univ fun x : Hop => land (peer x c) x) ⊢ (Sd c 0 : sProp 𝕄) := by
  refine Entails.of_eq ?_
  unfold Sd
  rw [none_done]
  exact (bigSep_sep _ _ _).symm
theorem copied_start : (emp : sProp 𝕄) ⊢ Dr m c 0 := by
  refine Entails.of_eq ?_
  unfold Dr
  rw [none_done]
  exact (bigSep_emp_const _).symm
theorem ends_start : iprop(Sd c 31 ∗ ow c (owedFrom c 31)) ⊢ (Sent m c 0 : sProp 𝕄) := by
  refine Entails.of_eq ?_
  unfold Sd Sent
  rw [none_done, all_done lev _ _ 31 lev_lt]
theorem ends_end : Sent m c 31 ⊢ (iprop((bigSep Finset.univ fun x : Hop => semVal (sendCell c x) 0)
    ∗ (bigSep Finset.univ fun x : Hop => slot c (src x c) (qS x) (gath m)) ∗ ow c 0) : sProp 𝕄) := by
  unfold Sent
  rw [all_done sentNo _ _ 31 sentNo_lt, owedFrom_end c 31 (le_refl _),
    show (bigSep Finset.univ fun x : Hop => SBack m c x) = (iprop((bigSep Finset.univ fun x : Hop => semVal (sendCell c x) 0)
      ∗ bigSep Finset.univ fun x : Hop => slot c (src x c) (qS x) (gath m)) : sProp 𝕄) from bigSep_sep _ _ _]
  iintro ⟨⟨H₁, H₂⟩, H₃⟩
  isplitl [H₁]; · iexact H₁
  isplitl [H₂]; · iexact H₂
  iexact H₃
theorem recvs_start : (bigSep Finset.univ fun x : Hop => RTodo c x) ⊢ (Rv c 0 : sProp 𝕄) := by
  unfold Rv; rw [none_done]
theorem recvs_end : Rv c 31 ⊢ (bigSep Finset.univ fun x : Hop => semVal (recvCell c x) 0 : sProp 𝕄) := by
  unfold Rv; rw [all_done lev _ _ 31 lev_lt]
theorem copied_end : Dr m c 31 ⊢ (bigSep Finset.univ fun x : Hop => oP c (got x c) (prodOf m c) : sProp 𝕄) := by
  unfold Dr; rw [all_done lev _ _ 31 lev_lt]
theorem prods_start : iprop(wPts m c ∗ bigSep Finset.univ fun x : Hop => iprop(∃ f, oP c (got x c) f)) ⊢ (Em m c 0 : sProp 𝕄) := by
  unfold Em; rw [none_done]
theorem prods_end : Em m c 31 ⊢ (iprop(wPts m c ∗ bigSep Finset.univ fun x : Hop => slot c (got x c) fullShare.right (gath m)) : sProp 𝕄) := by
  unfold Em; rw [all_done lev _ _ 31 lev_lt]

/-- What the hops start from: nothing received, both directions' first transfers and the own block's copy-out under way. -/
def Ready : sProp 𝕄 :=
  iprop(RS c 0 2 ∗ Em m c 0 ∗ TFree c 1 ∗ OutFly m c 0 c ∗ Dr m c 0 ∗ slot c c fullShare.right.right (gath m) ∗ Ops m c ∗ semVal (barCell c) 0)

/-- Up to the hops. -/
theorem front_sound {Q : PUnit → sProp 𝕄} :
    iprop(Recs m κ ∗ Linear c ∗ Copies c ∗ Ops m c ∗ Bufs c ∗ (∃ f, oM.view.loc (c : Thread nD τ) ↦{fullShare} f) ∗ ow c (O₀ c))
      ⊢ iprop((Ready m c -∗ Q ⟨⟩) -∗ wpC c (greet c) fun _ => wpC c (casts c) fun _ => wpC c (fwdX c (.inl 0)) fun _ =>
          wpC c (fwdX c (.inr 0)) fun _ => wpC c (emitX 0 c) Q) := by
  unfold Linear Copies Ops Bufs
  iintro ⟨#HR, ⟨Hg, Htok, Hrv⟩, ⟨Hc₀, Hc₁⟩, ⟨Ha, Hb⟩, ⟨⟨%fg, HG⟩, Hw, ⟨%ft, HT⟩⟩, ⟨%fo, Hout⟩, HO⟩ Hk
  ihave HG := (Entails.of_eq (gath_slots c fg)) $$ HG
  icases HG with ⟨Hown, Hslots⟩
  ihave Hout := (Entails.of_eq (out_blocks c fo)) $$ Hout
  icases Hout with ⟨Hoo, Hoall⟩
  ihave HT := (tiles_split c ft) $$ HT
  icases HT with ⟨Ht₀, Ht₁⟩
  iapply (step_greet m κ c) $$ [Hg Hslots HO]
  · isplitr; · iexact HR
    isplitl [Hg]; · iexact Hg
    isplitl [Hslots]
    · iapply (lands_any c fg); iexact Hslots
    iexact HO
  iintro ⟨Hz, Hland, HO⟩
  iapply (step_casts m c) $$ [Ha Hb Hw Hown]
  · isplitl [Ha]; · iexact Ha
    isplitl [Hb]; · iexact Hb
    isplitl [Hw]; · iexact Hw
    iexists fg; iexact Hown
  iintro ⟨Ha, Hb, Hw, Hown⟩
  ihave Hown := (slot_halves c c (gath m) fullShare).1 $$ Hown
  icases Hown with ⟨Ho₁, Hown⟩
  ihave Hown := (slot_halves c c (gath m) fullShare.right).1 $$ Hown
  icases Hown with ⟨Ho₂, Ho₃⟩
  ihave HS := (transfers_start c) $$ [Htok Hland]
  · isplitl [Htok]; · iexact Htok
    iexact Hland
  iapply (fwdS m c κ (.inl 0) 0 rfl) $$ [Ho₁ HS HO]
  · isplitr; · iexact HR
    isplitl [Ho₁]
    · rw [src_inl_zero, qS_inl]; iexact Ho₁
    isplitl [HS]; · iexact HS
    iexact HO
  iintro ⟨HS, HO⟩
  iapply (fwdS m c κ (.inr 0) 1 rfl) $$ [Ho₂ HS HO]
  · isplitr; · iexact HR
    isplitl [Ho₂]
    · rw [src_inr_zero, show qS (.inr 0) = fullShare.right.left from if_pos rfl]; iexact Ho₂
    isplitl [HS]; · iexact HS
    iexact HO
  iintro ⟨HS, HO⟩
  iapply (step_emit m c 0 c fullShare.right.right) $$ [Ho₃ Hw Ht₀ Hc₀ Hoo]
  · isplitl [Ho₃]; · iexact Ho₃
    isplitl [Hw]; · iexact Hw
    isplitl [Ht₀ Hc₀]
    · unfold TFree
      isplitl [Ht₀]; · iexists ft; iexact Ht₀
      iexact Hc₀
    iexists fo; iexact Hoo
  iintro ⟨Ho₃, Hw, Hf₀⟩
  iapply Hk
  unfold Ready Ops RS
  isplitl [Hrv HS HO]
  · isplitl [Hrv]; · iapply (recvs_start c); iexact Hrv
    isplitl [HS]; · iexact HS
    iexact HO
  isplitl [Hw Hoall]
  · iapply (prods_start m c)
    isplitl [Hw]; · iexact Hw
    iapply (outs_any c fo); iexact Hoall
  isplitl [Ht₁ Hc₁]
  · unfold TFree
    isplitl [Ht₁]; · iexists ft; iexact Ht₁
    iexact Hc₁
  isplitl [Hf₀]; · iexact Hf₀
  isplitr; · iapply (copied_start m c); iempintro
  isplitl [Ho₃]; · iexact Ho₃
  isplitl [Ha Hb]
  · isplitl [Ha]; · iexact Ha
    iexact Hb
  iexact Hz

/-- What the hops end with: everything received and passed on, the last two blocks' copy-outs under way. -/
def Hopped : sProp 𝕄 :=
  iprop((RS c 31 31 ∗ Em m c 31 ∗ Dr m c 29 ∗ OutFly m c 1 (got (.inl 15) c) ∗ OutFly m c 0 (got (.inr 14) c)
      ∗ slot c (got (.inl 15) c) fullShare.left (gath m) ∗ slot c (got (.inr 14) c) fullShare.left (gath m))
    ∗ oP c c (prodOf m c) ∗ slot c c fullShare.right.right (gath m) ∗ Ops m c ∗ semVal (barCell c) 0)

/-- The hops. -/
theorem hops_sound {Q : PUnit → sProp 𝕄} :
    iprop(Recs m κ ∗ Ready m c)
      ⊢ iprop((Hopped m c -∗ Q ⟨⟩) -∗ wpC c (hopFirst c) fun _ => wpC c (hopsMid c 13 (le_refl _)) fun _ => wpC c (hopLast c) Q) := by
  unfold Ready
  iintro ⟨#HR, H, He, Ht, Hf, Hd, Ho₃, Hops, Hz⟩ Hk
  iapply (hopFirst_sound m c κ) $$ [H He Ht Hf Hd]
  · isplitr; · iexact HR
    isplitl [H]; · iexact H
    isplitl [He]; · iexact He
    isplitl [Ht]; · iexact Ht
    isplitl [Hf]; · iexact Hf
    iexact Hd
  iintro ⟨H, Hoo⟩
  iapply (hopsMid_sound m c κ 13 (le_refl _)) $$ [H]
  · isplitr; · iexact HR
    iexact H
  iintro H
  iapply (hopLast_sound m c κ) $$ [H]
  · isplitr; · iexact HR
    iexact H
  iintro H
  iapply Hk
  unfold Hopped
  isplitl [H]; · iexact H
  isplitl [Hoo]; · iexact Hoo
  isplitl [Ho₃]; · iexact Ho₃
  isplitl [Hops]; · iexact Hops
  iexact Hz

/-- What the body ends with. -/
def Done : sProp 𝕄 :=
  iprop(Zeros c ∗ Ops m c ∗ Bufs c ∗ (oM.view.loc (c : Thread nD τ) ↦{fullShare} prodOf m c) ∗ ow c 0)

attribute [local irreducible] allSentR allSentL hopsMid

/-- After the hops: the transfers' ends and the last two copy-outs. -/
theorem back_sound {Q : PUnit → sProp 𝕄} :
    iprop(Recs m κ ∗ Hopped m c)
      ⊢ iprop((Done m c -∗ Q ⟨⟩) -∗ wpC c (allSentR c 16 (le_refl _)) fun _ => wpC c (allSentL c 15 (le_refl _)) fun _ =>
          wpC c (drainX 0 (got (.inr 14) c)) fun _ => wpC c (drainX 1 (got (.inl 15) c)) Q) := by
  unfold Hopped RS
  iintro ⟨#HR, ⟨⟨Hrv, HS, HO⟩, He, Hd, Hf₁, Hf₀, Hl₁, Hl₀⟩, Hoo, Ho₃, Hops, Hz⟩ Hk
  ihave HS := (ends_start m c) $$ [HS HO]
  · isplitl [HS]; · iexact HS
    iexact HO
  iapply (allSentR_sound m κ c 16 (le_refl _)) $$ [HS]
  · isplitr; · iexact HR
    iexact HS
  iintro HS
  iapply (allSentL_sound m κ c 15 (le_refl _)) $$ [HS]
  · isplitr; · iexact HR
    iexact HS
  iintro HS
  ihave HS := (ends_end m c) $$ HS
  icases HS with ⟨Hzs, Hback, HO⟩
  rw [← owedFrom_end c 31 (le_refl _)]
  iapply (drainO m c κ (.inr 14) 0 29 31 rfl) $$ [HO Hd Hf₀]
  · isplitr; · iexact HR
    isplitl [HO]; · iexact HO
    isplitl [Hd]; · iexact Hd
    iexact Hf₀
  iintro ⟨HO, Hd, Ht₀⟩
  iapply (drainO m c κ (.inl 15) 1 30 31 rfl) $$ [HO Hd Hf₁]
  · isplitr; · iexact HR
    isplitl [HO]; · iexact HO
    isplitl [Hd]; · iexact Hd
    iexact Hf₁
  iintro ⟨HO, Hd, Ht₁⟩
  iapply Hk
  unfold TFree
  icases Ht₀ with ⟨⟨%f₀, Ht₀⟩, Hc₀⟩
  icases Ht₁ with ⟨⟨%f₁, Ht₁⟩, Hc₁⟩
  ihave He := (prods_end m c) $$ He
  icases He with ⟨Hw, Hright⟩
  ihave Hl := (lent_back m c) $$ [Hback Hl₁ Hl₀]
  · isplitl [Hback]; · iexact Hback
    isplitl [Hl₁]; · iexact Hl₁
    iexact Hl₀
  icases Hl with ⟨⟨Ho₁, Ho₂⟩, Hleft⟩
  ihave Hown := (slot_halves c c (gath m) fullShare.right).2 $$ [Ho₂ Ho₃]
  · isplitl [Ho₂]; · iexact Ho₂
    iexact Ho₃
  ihave Hown := (slot_halves c c (gath m) fullShare).2 $$ [Ho₁ Hown]
  · isplitl [Ho₁]; · iexact Ho₁
    iexact Hown
  unfold Done Zeros Copies Bufs
  isplitl [Hz Hzs Hrv Hc₀ Hc₁]
  · isplitl [Hz]; · iexact Hz
    isplitl [Hzs]; · iexact Hzs
    isplitl [Hrv]; · iapply (recvs_end c); iexact Hrv
    isplitl [Hc₀]; · iexact Hc₀
    iexact Hc₁
  isplitl [Hops]; · iexact Hops
  isplitl [Hown Hleft Hright Hw Ht₀ Ht₁]
  · isplitl [Hown Hleft Hright]
    · iexists (gath m)
      iapply (Entails.of_eq (gath_slots c (gath m)).symm)
      isplitl [Hown]; · iexact Hown
      iapply (slots_join m c)
      isplitl [Hleft]; · iexact Hleft
      iexact Hright
    isplitl [Hw]
    · unfold wPts
      iexists (wIn m c); iexact Hw
    iapply (tiles_join c f₀ f₁)
    isplitl [Ht₀]; · iexact Ht₀
    iexact Ht₁
  isplitl [Hoo Hd]
  · iapply (Entails.of_eq (out_blocks c (prodOf m c)).symm)
    isplitl [Hoo]; · iexact Hoo
    iapply (copied_end m c); iexact Hd
  rw [owedFrom_end c 31 (le_refl _)]
  iexact HO

/-- The program on device `c`, from the staged operands and any buffers to the result's value, every cell at zero and nothing owed. -/
theorem prog_sound {Q : PUnit → sProp 𝕄} :
    iprop(Recs m κ ∗ Linear c ∗ Copies c ∗ Ops m c ∗ Bufs c ∗ (∃ f, oM.view.loc (c : Thread nD τ) ↦{fullShare} f) ∗ ow c (O₀ c))
      ⊢ iprop((Done m c -∗ Q ⟨⟩) -∗ wpC c (prog c) Q) := by
  unfold prog
  simp only [wp_bind, fwdR_eq, fwdL_eq, emitOwn_eq, drainL_eq, drainR_eq]
  iintro ⟨#HR, H⟩ Hk
  iapply (front_sound m κ c) $$ [H]
  · isplitr; · iexact HR
    iexact H
  iintro H
  iapply (hops_sound m κ c) $$ [H]
  · isplitr; · iexact HR
    iexact H
  iintro H
  iapply (back_sound m κ c) $$ [H]
  · isplitr; · iexact HR
    iexact H
  iexact Hk

end Body

end Cert.KernelIdeal.Ring

end
-- ==== Proof.IdealDeal.lean ====
/-
The ring's ghost state at the launch: every device's cells opened and every duty's token dealt to the device that pays it.
-/
module

public import proofs.«01_k».proof.Proof.IdealBody
public import Idealize.ShloMosaic.Lib.Invariants

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens as minted -/

/-- A family over a device's cells is the barrier's member, the send cells' and the receive cells'. -/
theorem bigSep_ci (Φ : CI → sProp 𝕄) :
    bigSep Finset.univ Φ
      = iprop(Φ none ∗ (bigSep Finset.univ fun x : Hop => Φ (some (x, false))) ∗ bigSep Finset.univ fun x : Hop => Φ (some (x, true))) := by
  have e : (Finset.univ : Finset CI).erase none = Finset.univ.map Function.Embedding.some := by
    ext k; cases k <;> simp
  rw [bigSep_univ_at Φ none, e, bigSep_map]
  refine congrArg (fun R : sProp 𝕄 => iprop(Φ none ∗ R)) ?_
  exact (bigSep_univ_prod _).trans ((bigSep_congr fun x _ =>
    bigSep_univ_eq_bigSepL [false, true] (by decide) (by decide) fun b => Φ (some (x, b))).trans (bigSep_sep' _ _ _))

theorem kcell_injective : Function.Injective kcell := by
  rintro ⟨c, k⟩ ⟨d, l⟩ h
  have hc : c = d := by
    have := congrArg (fun g : GSem nD τ sig => g.1.1) h
    cases k <;> cases l <;> exact this
  subst hc
  have hs := congrArg Prod.snd h
  rcases k with _ | k <;> rcases l with _ | l
  · rfl
  · exact absurd hs.symm (dma_ne_bar _)
  · exact absurd hs (dma_ne_bar _)
  · rw [ringSem_injective (SemLoc.dma.inj hs)]

def ringCells : Finset (GSem nD τ sig) := Finset.univ.map ⟨kcell, kcell_injective⟩

/-- A device's cells' duties: the barrier's two, one of each hop cell. -/
abbrev TI := Bool ⊕ (Hop × Bool)
def duty (p : Dev nD × TI) : GSem nD τ sig × ℕ × Bool := match p.2 with
  | .inl b => (barCell p.1, 0, b)
  | .inr k => (hopCell p.1 k, 0, false)

theorem duty_injective : Function.Injective duty := by
  rintro ⟨c, k⟩ ⟨d, l⟩ h
  have hc : c = d := by
    have := congrArg (fun t : GSem nD τ sig × ℕ × Bool => t.1.1.1) h
    cases k <;> cases l <;> exact this
  subst hc
  have hs := congrArg (fun t : GSem nD τ sig × ℕ × Bool => t.1.2) h
  have hb := congrArg (fun t : GSem nD τ sig × ℕ × Bool => t.2.2) h
  rcases k with b | k <;> rcases l with b' | l
  · exact congrArg (fun x => (c, (Sum.inl x : TI))) hb
  · exact absurd hs.symm (dma_ne_bar _)
  · exact absurd hs (dma_ne_bar _)
  · rw [ringSem_injective (SemLoc.dma.inj hs)]

def ringDuties : Finset (GSem nD τ sig × ℕ × Bool) := Finset.univ.map ⟨duty, duty_injective⟩

/-- The launch element: the staging's rounds, the ring's, no copy counted. -/
def u₀ : UU :=
  (initOf (Pipeline.cells cfgs cellOf_inj) (Pipeline.launchToks cfgs cellOf_inj), (initOf ringCells ringDuties, (1 : Counters)))

theorem u₀_split : (ownU u₀ : sProp 𝕄)
    ⊢ iprop(BI.own (EP (initOf (Pipeline.cells cfgs cellOf_inj) (Pipeline.launchToks cfgs cellOf_inj))) ∗ BI.own (ER (initOf ringCells ringDuties))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (_, (1 : Counters)))))

/-- Device `c`'s places in its own cells. -/
def Places (c : Dev nD) : sProp 𝕄 := bigSep Finset.univ fun k : CI => atPos ER (kcell (c, k)) 0 ∅ 0
/-- The tokens of the duties on device `c`'s cells. -/
def Mint (c : Dev nD) : sProp 𝕄 :=
  iprop((dutyTok ER (barCell c) 0 false ∗ dutyTok ER (barCell c) 0 true)
    ∗ (bigSep Finset.univ fun x : Hop => dutyTok ER (sendCell c x) 0 false) ∗ bigSep Finset.univ fun x : Hop => dutyTok ER (recvCell c x) 0 false)
/-- The tokens of the duties that device `c` pays. -/
def Hand (c : Dev nD) : sProp 𝕄 :=
  iprop((dutyTok ER (barCell (nxt c)) 0 false ∗ dutyTok ER (barCell (prv c)) 0 true)
    ∗ (bigSep Finset.univ fun x : Hop => dutyTok ER (sendCell c x) 0 false) ∗ bigSep Finset.univ fun x : Hop => dutyTok ER (recvCell (peer x c) x) 0 false)
/-- Device `c`'s share of the launch element. -/
def Share (c : Dev nD) : sProp 𝕄 :=
  iprop((bigSep Finset.univ fun k : CI => roundState ER (ringRd m) (kcell (c, k)) 0) ∗ (bigSep Finset.univ fun k : CI => reached ER (kcell (c, k)) 0)
    ∗ Places c ∗ Mint c)

/-- A family over all cells, device by device. -/
theorem bigSep_ringCells (Φ : GSem nD τ sig → sProp 𝕄) :
    bigSep ringCells Φ = bigSep Finset.univ fun c : Dev nD => bigSep Finset.univ fun k : CI => Φ (kcell (c, k)) := by
  unfold ringCells; rw [bigSep_map, bigSep_univ_prod]; rfl

theorem bigSep_ringDuties :
    bigSep ringDuties (fun t => (dutyTok ER t.1 t.2.1 t.2.2 : sProp 𝕄)) = bigSep Finset.univ fun c : Dev nD => Mint c := by
  unfold ringDuties
  rw [bigSep_map, bigSep_univ_prod]
  refine bigSep_congr fun c _ => (bigSep_univ_sum _).trans ?_
  exact congrArg₂ (fun P R : sProp 𝕄 => iprop(P ∗ R)) (bigSep_univ_eq_bigSepL [false, true] (by decide) (by decide) _)
    ((bigSep_univ_prod _).trans ((bigSep_congr fun x _ => bigSep_univ_eq_bigSepL [false, true] (by decide) (by decide) _).trans (bigSep_sep' _ _ _)))

theorem shares : BI.own (ER (initOf ringCells ringDuties)) ⊢ (|==> bigSep Finset.univ (Share m) : sProp 𝕄) := by
  have h := Rounds.fund ER (ringRd (F := F) m) ringCells ringDuties
  rw [bigSep_ringDuties, bigSep_ringCells, bigSep_ringCells, bigSep_ringCells] at h
  unfold Share Places
  rw [bigSep_sep', bigSep_sep', bigSep_sep']
  exact h

/-! ## The semaphores -/

/-- The kernel's own semaphores: the copies' two and the hops'. -/
def osem : Fin 2 ⊕ (Hop × Bool) → SemLoc sig
  | .inl s => .dma (copyS s)
  | .inr k => .dma (ringSem k)

theorem copyS_injective : Function.Injective copyS := fun a b e => by
  have := congrArg Fin.val e
  rw [copyS_val, copyS_val] at this
  exact Fin.ext (by omega)

theorem dma_scoped : ∀ q : DmaSem sig, (SemLoc.dma q : SemLoc sig).isScoped .tc = true := by decide

theorem osem_facts : Pipeline.OwnSemFacts spec0 osem where
  isScoped k := by rcases k with s | k <;> exact dma_scoped _
  inj := by
    rintro (a | a) (b | b) e
    · exact congrArg _ (copyS_injective (SemLoc.dma.inj e))
    · exact absurd (SemLoc.dma.inj e).symm (ringSem_ne_low b _ (by rw [copyS_val]; omega))
    · exact absurd (SemLoc.dma.inj e) (ringSem_ne_low a _ (by rw [copyS_val]; omega))
    · exact congrArg _ (ringSem_injective (SemLoc.dma.inj e))
  disj k w s := by
    have hw : ((spec0 w).sem s).val < 2 := by revert s; revert w; decide
    rcases k with a | a <;> intro e
    · have := congrArg Fin.val (SemLoc.dma.inj e)
      rw [copyS_val] at this; omega
    · exact ringSem_ne_low a _ (by omega) (SemLoc.dma.inj e)

theorem ownSems_eq (c : Dev nD) :
    (Pipeline.ownSems0 (Ix := Unit) (Name := ℕ) (U := UU) (Lvl := ℕ) (Val := Elt F) (τ := τ) osem c : sProp 𝕄)
      = iprop(Copies c ∗ (bigSep Finset.univ fun x : Hop => semVal (sendCell c x) 0) ∗ bigSep Finset.univ fun x : Hop => semVal (recvCell c x) 0) := by
  unfold Pipeline.ownSems0
  refine (bigSep_univ_sum _).trans ?_
  exact congrArg₂ (fun P R : sProp 𝕄 => iprop(P ∗ R)) (bigSep_univ_eq_bigSepL [0, 1] (by decide) (by decide) _)
    ((bigSep_univ_prod _).trans ((bigSep_congr fun x _ => bigSep_univ_eq_bigSepL [false, true] (by decide) (by decide) _).trans (bigSep_sep' _ _ _)))

theorem unscopedSems_eq (c : Dev nD) : (unscopedSems0 c : sProp 𝕄) = semVal (barCell c) 0 := by
  unfold unscopedSems0
  rw [bigSep_eq_bigSepL_of_eq [SemLoc.reg barS] (by decide) (by decide)]
  rfl

/-- A device's semaphores are its copies' two and its cells'. -/
theorem sems_eq (c : Dev nD) :
    (iprop(Pipeline.ownSems0 (Ix := Unit) (Name := ℕ) (U := UU) (Lvl := ℕ) (Val := Elt F) (τ := τ) osem c ∗ unscopedSems0 c) : sProp 𝕄)
      ⊢ iprop(Copies c ∗ bigSep Finset.univ fun k : CI => semVal (kcell (c, k)) 0) := by
  rw [ownSems_eq, unscopedSems_eq, bigSep_ci]
  iintro ⟨⟨Hc, Hs⟩, Hb⟩
  isplitl [Hc]; · iexact Hc
  isplitl [Hb]; · iexact Hb
  iexact Hs

/-! ## Opening the cells, dealing the tokens -/

/-- The tokens go round the ring: a barrier's to the two neighbours, a receive cell's to the device it receives from. -/
theorem deal : (bigSep Finset.univ fun c : Dev nD => (Mint c : sProp 𝕄)) ⊢ bigSep Finset.univ fun c : Dev nD => Hand c := by
  have hr : (bigSep Finset.univ fun c : Dev nD => bigSep Finset.univ fun x : Hop => (dutyTok ER (recvCell c x) 0 false : sProp 𝕄))
      = bigSep Finset.univ fun c : Dev nD => bigSep Finset.univ fun x : Hop => dutyTok ER (recvCell (peer x c) x) 0 false :=
    (BI.bigSep_univ_comm _).trans ((bigSep_congr fun x _ => bigSep_univ_equiv (turnX x) _).trans (BI.bigSep_univ_comm _))
  have hf := bigSep_univ_equiv turn (fun c : Dev nD => (dutyTok ER (barCell c) 0 false : sProp 𝕄))
  have ht := bigSep_univ_equiv turn.symm (fun c : Dev nD => (dutyTok ER (barCell c) 0 true : sProp 𝕄))
  unfold Mint Hand
  rw [bigSep_sep', bigSep_sep', bigSep_sep', bigSep_sep', bigSep_sep', bigSep_sep', hr, hf, ht]
  exact BI.Entails.refl _

/-- Every cell's invariant, and that every cell is at its first round. -/
def Marks (κ : Dev nD × CI → ℕ) : sProp 𝕄 :=
  iprop((bigSep Finset.univ fun p : Dev nD × CI => cellInv ER (ringRd m) (κ p) (kcell p))
    ∗ bigSep Finset.univ fun p : Dev nD × CI => reached ER (kcell p) 0)
instance Marks_persistent (κ : Dev nD × CI → ℕ) : BI.Persistent (Marks m κ) := by unfold Marks; infer_instance

/-- What device `c` starts its kernel with besides the credits. -/
def Dealt (c : Dev nD) : sProp 𝕄 := iprop((∃ κ, Marks m κ) ∗ Copies c ∗ Places c ∗ Hand c)

theorem open_cells :
    iprop((bigSep ringCells fun g => (semVal g 0 : sProp 𝕄)) ∗ bigSep ringCells fun g => roundState ER (ringRd m) g 0)
      ⊢ |={Set.univ}=> iprop(∃ κ : Dev nD × CI → ℕ, bigSep Finset.univ fun p : Dev nD × CI => cellInv ER (ringRd m) (κ p) (kcell p)) := by
  refine (Rounds.bodies_intro ER (ringRd m) ringCells).trans ((inv_alloc_family ringCells (Rounds.body ER (ringRd m)) ∅ (E := Set.univ)).trans ?_)
  iintro H
  imod H with ⟨%κ, -, H⟩
  imodintro
  iexists fun p => κ (kcell p)
  iapply (show (bigSep ringCells fun g => inv (κ g) (Rounds.body ER (ringRd m) g))
      ⊢ (bigSep Finset.univ fun p : Dev nD × CI => cellInv ER (ringRd m) (κ (kcell p)) (kcell p) : sProp 𝕄) from
        Entails.of_eq (by unfold ringCells; rw [bigSep_map]; rfl))
  iexact H

/-- From all devices' semaphores and shares, what each starts with. -/
theorem deal_all :
    (bigSep Finset.univ fun c : Dev nD => iprop(Pipeline.ownSems0 (Ix := Unit) (Name := ℕ) (U := UU) (Lvl := ℕ) (Val := Elt F) (τ := τ) osem c ∗ unscopedSems0 c ∗ Share m c) : sProp 𝕄)
      ⊢ |={Set.univ}=> bigSep Finset.univ (Dealt m) := by
  have h₀ : (bigSep Finset.univ fun c : Dev nD => iprop(Pipeline.ownSems0 (Ix := Unit) (Name := ℕ) (U := UU) (Lvl := ℕ) (Val := Elt F) (τ := τ) osem c ∗ unscopedSems0 c ∗ Share m c) : sProp 𝕄)
      ⊢ bigSep Finset.univ fun c : Dev nD => iprop((Copies c ∗ bigSep Finset.univ fun k : CI => semVal (kcell (c, k)) 0) ∗ Share m c) :=
    bigSep_mono fun c _ => by
      show iprop(Pipeline.ownSems0 (Ix := Unit) (Name := ℕ) (U := UU) (Lvl := ℕ) (Val := Elt F) (τ := τ) osem c ∗ unscopedSems0 c ∗ Share m c)
        ⊢ (iprop((Copies c ∗ bigSep Finset.univ fun k : CI => semVal (kcell (c, k)) 0) ∗ Share m c) : sProp 𝕄)
      iintro ⟨H₁, H₂, H₃⟩
      isplitr [H₃]
      · iapply (sems_eq c)
        isplitl [H₁] <;> iassumption
      iexact H₃
  refine h₀.trans ?_
  unfold Share
  rw [bigSep_sep', bigSep_sep', bigSep_sep', bigSep_sep', bigSep_sep', ← bigSep_ringCells (fun g => semVal g 0),
    ← bigSep_ringCells (fun g => roundState ER (ringRd m) g 0)]
  iintro ⟨⟨Hc, Hv⟩, Hst, #Hr, Hp, Ht⟩
  ihave Ht := (deal (F := F)) $$ Ht
  imod (open_cells m) $$ [Hv Hst] with ⟨%κ, #HI⟩
  · isplitl [Hv] <;> iassumption
  imodintro
  unfold Dealt
  rw [bigSep_sep', bigSep_sep', bigSep_sep']
  isplitr [Hc Hp Ht]
  · iapply (BI.bigSep_of_persistent Finset.univ (iprop(∃ κ, Marks m κ) : sProp 𝕄))
    iexists κ
    unfold Marks
    isplitl; · iexact HI
    rw [bigSep_univ_prod (fun p : Dev nD × CI => (reached ER (kcell p) 0 : sProp 𝕄))]
    iexact Hr
  isplitl [Hc]; · iexact Hc
  isplitl [Hp] <;> iassumption

end Cert.KernelIdeal.Ring

end
-- ==== Proof.IdealLaunch.lean ====
/-
The launch: the credits the devices start with, the kernel's obligation to the launch, and the run of the whole program.
-/
module

public import proofs.«01_k».proof.Proof.IdealDeal
public import Idealize.ShloMosaic.Lib.Quiescent
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

theorem barCell_inj {c d : Dev nD} : Iff (barCell c = barCell d) (c = d) :=
  ⟨fun h => congrArg (fun g : GSem nD τ sig => g.1.1) h, fun h => h ▸ rfl⟩
theorem recvCell_inj {c d : Dev nD} {x y : Hop} : Iff (recvCell c x = recvCell d y) (c = d ∧ x = y) :=
  ⟨fun h => ⟨congrArg (fun g : GSem nD τ sig => g.1.1) h, rSem_injective (SemLoc.dma.inj (congrArg Prod.snd h))⟩,
    fun h => by rw [h.1, h.2]⟩
theorem recvCell_ne_bar (c d : Dev nD) (x : Hop) : recvCell c x ≠ barCell d := fun h => dma_ne_bar _ (congrArg Prod.snd h)

theorem eq_nxt_iff (c d : Dev nD) : Iff (c = nxt d) (d = prv c) :=
  ⟨fun h => by rw [h, prv_nxt], fun h => by rw [h, nxt_prv]⟩
theorem eq_peer_iff (x : Hop) (c d : Dev nD) : Iff (c = peer x d) (d = from_ x c) :=
  ⟨fun h => by rw [h, from_peer], fun h => by rw [h, peer_from]⟩

/-- What device `d`'s transfers owe a barrier: nothing. -/
theorem owedFrom_bar (d c : Dev nD) : owedFrom d 0 (barCell c) () = 0 := by
  unfold owedFrom
  rw [Finset.sum_apply, Finsupp.finset_sum_apply]
  exact Finset.sum_eq_zero fun x _ => by rw [tallyAt_apply, if_neg fun h => recvCell_ne_bar _ _ _ h.1.symm]

/-- What they owe hop `x`'s receive cell on device `c`: a block's credit if `d` sends to it. -/
theorem owedFrom_recv (d c : Dev nD) (x : Hop) : owedFrom d 0 (recvCell c x) () = if d = from_ x c then N else 0 := by
  unfold owedFrom
  rw [Finset.sum_apply, Finsupp.finset_sum_apply, Finset.sum_eq_single x]
  · rw [tallyAt_apply]
    refine if_congr ?_ rfl rfl
    rw [recvCell_inj, eq_peer_iff]
    exact ⟨fun h => h.1.1, fun h => ⟨⟨h, rfl⟩, rfl⟩⟩
  · intro y _ hy
    rw [tallyAt_apply, if_neg fun h => hy (recvCell_inj.mp h.1).2.symm]
  · intro h
    exact absurd (Finset.mem_filter.mpr ⟨Finset.mem_univ x, Nat.zero_le (lev x)⟩) h

theorem O₀_bar (d c : Dev nD) : O₀ d (barCell c) () = (if d = prv c then 1 else 0) + (if d = nxt c then 1 else 0) := by
  unfold O₀ O₁
  rw [Pi.add_apply, Finsupp.add_apply, Pi.add_apply, Finsupp.add_apply, owedFrom_bar, tallyAt_apply, tallyAt_apply, Nat.zero_add]
  refine congrArg₂ (· + ·) (if_congr ?_ rfl rfl) (if_congr ?_ rfl rfl)
  · rw [barCell_inj, eq_nxt_iff]; exact ⟨And.left, fun h => ⟨h, rfl⟩⟩
  · rw [barCell_inj]; exact ⟨fun h => (eq_nxt_iff d c).mpr h.1, fun h => ⟨(eq_nxt_iff d c).mp h, rfl⟩⟩

theorem O₀_recv (d c : Dev nD) (x : Hop) : O₀ d (recvCell c x) () = if d = from_ x c then N else 0 := by
  have e (b : Dev nD) : (tallyAt (barCell b) () 1 : CellTallies nD τ sig Unit) (recvCell c x) () = 0 := by
    rw [tallyAt_apply, if_neg fun h => recvCell_ne_bar _ _ _ h.1]
  unfold O₀ O₁
  rw [Pi.add_apply, Finsupp.add_apply, Pi.add_apply, Finsupp.add_apply, owedFrom_recv, e, e, Nat.add_zero]

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  rw [Pipeline.launchCredit_owing, Finset.sum_congr rfl fun d _ => O₀_bar d c, Finset.sum_add_distrib, Finsupp.single_eq_same]
  simp only [Finset.sum_ite_eq', Finset.mem_univ, if_true]

theorem credit_recv (c : Dev nD) (x : Hop) :
    tallyOn (recvCell c x) (launchCredit (Pipeline.owing O₀) 0 (recvCell c x)) = (tallyAt (recvCell c x) () N : CellTallies nD τ sig Unit) := by
  unfold tallyAt
  refine congrArg _ (Finsupp.ext fun u => ?_)
  rw [Pipeline.launchCredit_owing, Finset.sum_congr rfl fun d _ => O₀_recv d c x, Finsupp.single_eq_same]
  simp only [Finset.sum_ite_eq', Finset.mem_univ, if_true]

/-- Device `c` starts with two units for its barrier and a block's credit for each hop it receives. -/
theorem credits (c : Dev nD) :
    (Pipeline.launchCred O₀ c : sProp 𝕄)
      ⊢ iprop(cred (tallyAt (barCell c) () 2) ∗ bigSep Finset.univ fun x : Hop => cred (tallyAt (recvCell c x) () N)) := by
  have hi : Function.Injective fun x : Hop => (SemLoc.dma (rSem x) : SemLoc sig) := fun a b e => rSem_injective (SemLoc.dma.inj e)
  unfold Pipeline.launchCred
  rw [bigSep_univ_at _ (SemLoc.reg barS), credit_bar]
  refine sep_mono_right ?_
  refine BI.Entails.trans (bigSep_subset (t := Finset.univ.map ⟨_, hi⟩) fun s hs => ?_) ?_
  · obtain ⟨x, -, rfl⟩ := Finset.mem_map.mp hs
    exact Finset.mem_erase.mpr ⟨dma_ne_bar _, Finset.mem_univ _⟩
  · rw [bigSep_map]
    exact bigSep_mono fun x _ => Entails.of_eq (congrArg cred (credit_recv c x))

/-- The places, the tokens and the credits are what a device's kernel starts from. -/
theorem linear_intro (c : Dev nD) :
    iprop(Places c ∗ Hand c ∗ cred (tallyAt (barCell c) () 2) ∗ bigSep Finset.univ fun x : Hop => cred (tallyAt (recvCell c x) () N))
      ⊢ (Linear c : sProp 𝕄) := by
  unfold Places Hand Linear Greet STok RTodo
  rw [bigSep_ci, bigSep_sep', bigSep_sep', bigSep_sep']
  iintro ⟨⟨HpB, HpS, HpR⟩, ⟨⟨Ht₁, Ht₂⟩, HtS, HtR⟩, HcB, HcR⟩
  isplitl [HpB Ht₁ Ht₂ HcB]
  · isplitl [Ht₂]; · iexact Ht₂
    isplitl [Ht₁]; · iexact Ht₁
    isplitl [HpB]; · iexact HpB
    iexact HcB
  isplitl [HtS HtR HpS]
  · isplitl [HtS]; · iexact HtS
    isplitl [HtR]; · iexact HtR
    iexact HpS
  isplitl [HpR]; · iexact HpR
  iexact HcR

/-! ## The kernel's obligation -/

/-- What device `c`'s kernel starts from, outside its scratch buffers. -/
def Start (c : Dev nD) : sProp 𝕄 :=
  iprop((∃ κ, Recs m κ) ∗ Linear c ∗ Copies c ∗ ∃ f, oM.view.loc (c : Thread nD τ) ↦{fullShare} f)
def Before (c : Dev nD) : sProp 𝕄 := iprop(Start m c ∗ Bufs c)
def Behind (c : Dev nD) : sProp 𝕄 := iprop(Zeros c ∗ Bufs c ∗ oM.view.loc (c : Thread nD τ) ↦{fullShare} prodOf m c)

/-- The launch's proof data: the operands staged and left as found, all owed before the kernel and nothing after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aIn m c
    | ⟨1, _⟩ => bIn m c
  Φ t := match t with
    | ⟨0, _⟩ => Before m c
    | ⟨_ + 1, _⟩ => Behind m c
  q _ := fullShare
  owed t := match t with
    | ⟨0, _⟩ => O₀ c
    | ⟨_ + 1, _⟩ => 0

theorem before_a (c : Dev nD) (d) : (dats m ρ 0 c).before 0 t0_0 d = aIn m c := by
  unfold Dat.before
  rw [if_pos (fetch0_0 t0_0)]
  rfl
theorem before_b (c : Dev nD) (d) : (dats m ρ 0 c).before 1 t0_0 d = bIn m c := by
  unfold Dat.before
  rw [if_pos (fetch0_1 t0_0)]
  rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer at given contents. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def Pre₀ (c : Dev nD) : sProp 𝕄 :=
  iprop(Before m c ∗ (dats m ρ 0 c).owesAt () t0_0.castSucc
    ∗ (∃ d, holds c cc0_stg0_0 ((dats m ρ 0 c).before 0 t0_0 d)) ∗ (∃ d, holds c cc0_stg1_0 ((dats m ρ 0 c).before 1 t0_0 d)))
def Post₀ (c : Dev nD) : sProp 𝕄 :=
  iprop(Behind m c ∗ (dats m ρ 0 c).owesAt () t0_0.succ ∗ holds c cc0_stg0_0 (aIn m c) ∗ holds c cc0_stg1_0 (bIn m c))

theorem obligation_pre (c : Dev nD) :
    Pre₀ m ρ c ⊢ iprop(∃ κ, Recs m κ ∗ Linear c ∗ Copies c ∗ Ops m c ∗ Bufs c ∗ (∃ f, oM.view.loc (c : Thread nD τ) ↦{fullShare} f) ∗ ow c (O₀ c)) := by
  unfold Pre₀ Before Start Ops ow Dat.owesAt Pipeline.owesWithin
  rw [show (dats m ρ 0 c).owed t0_0.castSucc = O₀ c from rfl]
  iintro ⟨⟨⟨⟨%κ, HR⟩, HL, HC, Hout⟩, HB⟩, ⟨%W, %hW, HO⟩, ⟨%d₀, %f₀, %h₀, Ha⟩, ⟨%d₁, %f₁, %h₁, Hb⟩⟩
  subst h₀ h₁
  rw [before_a, before_b]
  iexists κ
  isplitl [HR]; · iexact HR
  isplitl [HL]; · iexact HL
  isplitl [HC]; · iexact HC
  isplitl [Ha Hb]
  · isplitl [Ha]; · iexact Ha
    iexact Hb
  isplitl [HB]; · iexact HB
  isplitl [Hout]; · iexact Hout
  iexists W
  iexact HO

theorem obligation_post (c : Dev nD) : Done m c ⊢ (Post₀ m ρ c : sProp 𝕄) := by
  unfold Post₀ Done Behind Ops ow Dat.owesAt Pipeline.owesWithin
  rw [show (dats m ρ 0 c).owed t0_0.succ = 0 from rfl]
  iintro ⟨HZ, ⟨Ha, Hb⟩, HB, Hout, ⟨%W, HO⟩⟩
  isplitl [HZ HB Hout]
  · isplitl [HZ]; · iexact HZ
    isplitl [HB]; · iexact HB
    iexact Hout
  isplitl [HO]
  · iexists W
    isplitr; · ipureintro; exact fun _ _ => Or.inl trivial
    iexact HO
  isplitl [Ha]
  · iexists _; isplitr; · (ipureintro; rfl)
    iexact Ha
  iexists _; isplitr; · (ipureintro; rfl)
  iexact Hb

/-- The kernel on device `c`, from what the launch leaves to what it expects back. -/
theorem body_run (c : Dev nD) :
    Pre₀ m ρ c ⊢ wpC c (cc0_body (F := F) aM (Memref.isWhole_whole _) bM (Memref.isWhole_whole _) oM (Memref.isWhole_whole _) gM (Memref.isWhole_whole _)
      wM (Memref.isWhole_whole _) tM (Memref.isWhole_whole _) cc0_scratch3 cc0_scratch4 cc0_scratch5 cc0_scratch6 cc0_scratch7) (fun _ => Post₀ m ρ c) := by
  rw [cc0_body_eq_prog]
  simp only [Prog.lift, Prog.bind_op, Prog.bind_ret]
  unfold wpC
  rw [wp_deviceId]
  refine (obligation_pre m ρ c).trans ?_
  iintro ⟨%κ, H⟩
  iapply (prog_sound m κ c (Q := fun _ => Post₀ m ρ c)) $$ H
  iintro H
  iapply (obligation_post m ρ c) $$ H

theorem obligation (c : Dev nD) : BodyObligation (dats (F := F) m ρ 0 c) (defs₀ (F := F)) 𝒱₀ () Set.univ := fun t => by
  rw [fin_N0 t, bigSep_W0, bigSep_W0]
  simp only [owns_whole]
  exact body_run m ρ c

/-! ## The launch -/

theorem start_intro (c : Dev nD) :
    iprop(Pipeline.unscopedRestP Pipeline.Prefetch.none spec0 c (fun b => m ((c : Thread nD τ).loc b)) ∗ levAts L lv
        ∗ Pipeline.launchCred O₀ c ∗ prngReg c (ρ c) ∗ Dealt m c)
      ⊢ |={Set.univ}=> iprop(Start m c ∗ emp) := by
  rw [Pipeline.unscopedRestP_none, unscopedRest0_eq]
  unfold Start Dealt Marks Recs
  iintro ⟨Hout, Hlev, Hcr, -, ⟨%κ, HI, HR⟩, HC, HP, HH⟩
  ihave Hcr := (credits (F := F) c) $$ Hcr
  icases Hcr with ⟨Hc₁, Hc₂⟩
  imodintro
  isplitl
  · isplitl [Hlev HI HR]
    · iexists κ
      isplitl [HI]; · iexact HI
      isplitl [HR]; · iexact HR
      iexact Hlev
    isplitl [HP HH Hc₁ Hc₂]
    · iapply (linear_intro c)
      isplitl [HP]; · iexact HP
      isplitl [HH]; · iexact HH
      isplitl [Hc₁]; · iexact Hc₁
      iexact Hc₂
    isplitl [HC]; · iexact HC
    iexists _
    iexact Hout
  · iempintro

theorem enter (c : Dev nD) :
    iprop(Start m c ∗ Pipeline.prefHeld Pipeline.Prefetch.none c (fun _ => fullShare.right) (fun k => k.elim0) ∗ Pipeline.scopedRest spec0 c)
      ⊢ (dats m ρ 0 c).Φ 0 := by
  rw [show (dats m ρ 0 c).Φ 0 = Before m c from rfl, scopedRest0_eq]
  unfold Before Bufs
  iintro ⟨Hs, -, HB⟩
  isplitl [Hs]; · iexact Hs
  iexact HB

/-- What is left to read off at the end: the barrier's counter at zero and the result. -/
def Left (c : Dev nD) : sProp 𝕄 := iprop(unscopedSems0 c ∗ oM.view.loc (c : Thread nD τ) ↦{fullShare} prodOf m c)

theorem leave (c : Dev nD) :
    (dats m ρ 0 c).Φ (Fin.last cfg0.N) ⊢ iprop(Left m c ∗ Pipeline.ownSems0 osem c ∗ Pipeline.scopedRest spec0 c) := by
  rw [show (dats m ρ 0 c).Φ (Fin.last cfg0.N) = Behind m c from rfl, scopedRest0_eq, ownSems_eq]
  unfold Behind Left Zeros Bufs
  rw [unscopedSems_eq]
  iintro ⟨⟨Hb, Hs, Hr, HC⟩, HB, Hout⟩
  isplitl [Hb Hout]
  · isplitl [Hb] <;> iassumption
  isplitl [HC Hs Hr]
  · isplitl [HC]; · iexact HC
    isplitl [Hs] <;> iassumption
  iexact HB

/-- The final memory read off: the barrier's counter is zero and the result is the product. -/
theorem read_left (c : Dev nD) (s : Phys nD τ sig (Elt F)) :
    iprop(Left m c ∗ emp ∗ SI s) ⊢ (|={Set.univ}=> iprop(⌜(∀ sm : SemLoc sig, sm.isScoped .tc = false → s.mem.sem ((c.tc : Thread nD τ), sm) = 0)
      ∧ s.mem.mem ((c : Thread nD τ).loc main_v1) = prodOf m c⌝ ∗ SI s) : sProp 𝕄) := by
  unfold Left
  iintro ⟨⟨Hb, Hout⟩, -, HS⟩
  ihave %ho := (SI_pointsTo_agree (st := s)) $$ [HS Hout]
  · isplitl [HS] <;> iassumption
  imod (Pipeline.unscopedSems0_read (X := unscopedSems0 c) (c := c) fupd_intro s) $$ [Hb HS] with ⟨%hb, HS⟩
  · isplitl [Hb] <;> iassumption
  imodintro
  isplitr
  · ipureintro
    exact ⟨hb, funext fun i => ho i (Finset.mem_univ i)⟩
  iexact HS

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert s; revert w; decide) _ (by
      rcases t with ⟨_ | _, _⟩
      · exact .inl rfl
      · exact .inr rfl)

theorem share_full (c : Dev nD) (w : Fin cfg0.W) : (dats m ρ 0 c).share w = fullShare := by unfold Dat.share; split <;> rfl

/-- From any memory with all counters at zero, every execution ends, with device `c`'s result the product of the gathered
    `A` and its own `B`, its arguments as they were and every counter at zero. -/
theorem run : θ_run defs (onTc (τ := τ) (main (F := F))) (s₀ m ρ) (fun r =>
    (∀ c : Dev nD, r.2.mem ((c : Thread nD τ).loc main_v1) = prodOf m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun c => (main_chain c).trans rfl)
    (hbody := fun c => (obligation m ρ c).loose) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := Share m) (G' := Dealt m) (u₀ := u₀)
    (hu₀ := by
      iintro H
      ihave H := u₀_split $$ H
      icases H with ⟨H₁, H₂⟩
      imod (shares m) $$ H₂ with H₂
      imodintro
      isplitl [H₁] <;> iassumption)
    (hglob := deal_all m)
    (hA := fun _ _ => rfl) (hpf := fun _ k => k.elim0)
    (X := Start m) (Y := Left m) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_v1) = prodOf m c)
    (hY := read_left m)
    (hQ := fun _ h hs => ⟨fun c => ⟨(h c).2.2.2, ((h c).1 0).trans ((dats (F := F) m ρ 0 c).arrAt_in 0 rfl _),
      ((h c).1 1).trans ((dats (F := F) m ρ 0 c).arrAt_in 1 rfl _)⟩, sem_eq_zero hs fun c => (h c).2.2.1⟩)

end Cert.KernelIdeal.Ring

end
-- ==== Proof.IdealValue.lean ====
/-
The value: over the ideal floats each device's result is the reference's product.
-/
module

public import proofs.«01_k».proof.Proof.IdealLaunch
public import proofs.«01_k».proof.ReferenceIdeal
public import proofs.«01_k».proof.Proof.Gen.ReferenceIdeal
public import Idealize.ShloMosaic.Lib.Layout
public import Idealize.ShloMosaic.Lib.Pointwise
public import Idealize.ShloMosaic.Lib.Pipeline.ValueKit.Point

@[expose] public section

set_option maxRecDepth 16384

noncomputable section

namespace Cert.KernelIdeal.Ring

open Cert.KernelIdeal Cert.KernelIdeal.Gen
open Idealize.ShloMosaic Idealize.ShloMosaic.TcCoe
open Idealize.ShloMosaic.Pointwise

variable (m : (ℓ : Loc nD τ sig) → Buf (Elt Ideal) ℓ)

/-- The one point's blocks start at the arrays' corners. -/
theorem starts : ∀ t : Fin cfg0.N, win0_0.index t = ![0, 0] ∧ win0_1.index t = ![0, 0] :=
  (by decide +kernel : ∀ t : Fin grid0.N, win0_0.index t = ![0, 0] ∧ win0_1.index t = ![0, 0])

/-- The whole of each argument is staged. -/
theorem aIn_eq (c : Dev nD) : aIn m c = m ((c : Thread nD τ).loc main_arg0) := by
  blk_ext! [aIn, iblk, V, starts t0_0]
theorem bIn_eq (c : Dev nD) : bIn m c = m ((c : Thread nD τ).loc main_arg1) := by
  blk_ext! [bIn, iblk, V, starts t0_0]

/-- An element of a block's product is the sum of the products along its row and its column. -/
theorem prod_at (a : FVec Ideal S512x256 .f32) (b : FVec Ideal S256x512 .f32) (j : S512x512.Idx) :
    k0_pay3 (F := Ideal) (k0_pay2 (F := Ideal) a) (k0_pay1 (F := Ideal) b) j = ∑ k : Fin 256, a (ix2 (j 0) k) * b (ix2 k (j 1)) := by
  pointwise [k0_pay3, k0_pay2, k0_pay1]

/-- The reference's product. -/
abbrev refOf (A : FVec Ideal S16384x256 .f32) (B : FVec Ideal S256x512 .f32) : FVec Ideal S16384x512 .f32 :=
  Host.dotGeneral Cert.ReferenceIdeal.dot_S16384x256_S256x512_S16384x512_1_0_0_1_n_n none A B

/-- An element of the reference's product likewise. -/
theorem ref_at (a : FVec Ideal S16384x256 .f32) (b : FVec Ideal S256x512 .f32) (i : S16384x512.Idx) :
    refOf a b i = ∑ k : Fin 256, a (ix2 (i 0) k) * b (ix2 k (i 1)) := by
  pointwise [refOf]

/-- Where every device has its block of `A` and the whole of `B`, every device's result is `A` times `B`. -/
theorem prodOf_eq (A : FVec Ideal S16384x256 .f32) (B : FVec Ideal S256x512 .f32)
    (hA : ∀ d : Dev nD, m ((d : Thread nD τ).loc main_arg0) = Layout.block ⟨2, ![512, 256]⟩ ⟨2, ![16384, 256]⟩ 0 32 d A)
    (hB : ∀ d : Dev nD, m ((d : Thread nD τ).loc main_arg1) = B) (c : Dev nD) :
    prodOf m c = refOf A B := by
  funext i
  refine Eq.trans ?_ (ref_at A B i).symm
  show k0_pay3 (F := Ideal) (k0_pay2 (F := Ideal) (aIn m (blkOf i))) (k0_pay1 (F := Ideal) (bIn m c)) (rowIn i) = _
  rw [aIn_eq, bIn_eq, hA, hB]
  refine (prod_at _ B (rowIn i)).trans (Finset.sum_congr rfl fun k _ => ?_)
  refine congrArg₂ (fun x y : EReal => x * y) (congrArg A (funext fun a => Fin.ext ?_)) rfl
  match a with
  | 0 => show (blkOf i).val * 512 + (i 0).val % 512 = (i 0).val; show (i 0).val / 512 * 512 + (i 0).val % 512 = (i 0).val; omega
  | 1 => rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.IdealValue
public import Idealize.ShloMosaic.Adequacy
public import Idealize.ShloMosaic.Init

@[expose] public section

noncomputable section

namespace Cert.Proof

open Idealize.ShloMosaic Idealize.SL.Sem

/-- The kernel at the machine's floats ends with its arguments unchanged and every counter at zero. -/
theorem frame_kernel : Cert.quiescent_Kernel (hKernel := Cert.Kernel.Gen.facts) := fun m g _ =>
  (θ_run (Cert.Kernel.defs (F := Bits)) _ _).mono (fun _ h => ⟨fun c => (h.1 c).2, h.2⟩) (Cert.Kernel.Ring.run m g)

/-- The kernel at the ideal floats ends with its arguments unchanged and every counter at zero. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Ring.run m g)

/-- The reference ends with its arguments unchanged; it has no semaphore, so no counter is left above zero. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems rfl r.2⟩)
    (Cert.ReferenceIdeal.Value.run m g)

/-- Over the ideal floats, when each device holds its rows of the reference's `A` and all of its `B`, every device's result
is the reference's product. -/
theorem value : Cert.algebraic_KernelIdeal_ReferenceIdeal (hKernelIdeal := Cert.KernelIdeal.Gen.facts)
    (hReferenceIdeal := Cert.ReferenceIdeal.Gen.facts) := fun m g m' g' _ hm =>
  ⟨_, (θ_run (Cert.KernelIdeal.defs (F := Ideal)) _ _).mono
      (fun _ h c => ⟨(h.1 c).1.trans (Cert.KernelIdeal.Ring.prodOf_eq m _ _ (fun d => (hm d).1) (fun d => (hm d).2) c), (h.1 c).2⟩)
      (Cert.KernelIdeal.Ring.run m g),
    (θ_run (Cert.ReferenceIdeal.defs (F := Ideal)) _ _).mono (fun _ h => h 0) (Cert.ReferenceIdeal.Value.run m' g')⟩

/-- The five claims of the statement together. -/
theorem claim : Cert.Claim := ⟨Cert.Kernel.Gen.facts, Cert.KernelIdeal.Gen.facts, Cert.ReferenceIdeal.Gen.facts,
  frame_kernel, frame_ideal, frame_reference, trivial, value⟩

end Cert.Proof

end
